-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S16x1x2x128 : Shape := ⟨4, ![16, 1, 2, 128]⟩
abbrev S16x131072x2x128 : Shape := ⟨4, ![16, 131072, 2, 128]⟩
abbrev S16x131072x2 : Shape := ⟨3, ![16, 131072, 2]⟩
abbrev S16x32x128 : Shape := ⟨3, ![16, 32, 128]⟩
abbrev S16x2x128 : Shape := ⟨3, ![16, 2, 128]⟩
abbrev S16x2x131072x128 : Shape := ⟨4, ![16, 2, 131072, 128]⟩
abbrev S16x2x131072 : Shape := ⟨3, ![16, 2, 131072]⟩
abbrev S16x2x1 : Shape := ⟨3, ![16, 2, 1]⟩
abbrev S1x32x128 : Shape := ⟨3, ![1, 32, 128]⟩
abbrev S1x2x128 : Shape := ⟨3, ![1, 2, 128]⟩
abbrev S1x2x4096x128 : Shape := ⟨4, ![1, 2, 4096, 128]⟩
abbrev S1x2x4096 : Shape := ⟨3, ![1, 2, 4096]⟩
abbrev S1x2x1 : Shape := ⟨3, ![1, 2, 1]⟩
abbrev S32x1 : Shape := ⟨2, ![32, 1]⟩
abbrev S32x256 : Shape := ⟨2, ![32, 256]⟩
abbrev S32x128 : Shape := ⟨2, ![32, 128]⟩
abbrev S1x1x512 : Shape := ⟨3, ![1, 1, 512]⟩
abbrev S512 : Shape := ⟨1, ![512]⟩
abbrev S512x1 : Shape := ⟨2, ![512, 1]⟩
abbrev S1x1x512x128 : Shape := ⟨4, ![1, 1, 512, 128]⟩
abbrev S512x128 : Shape := ⟨2, ![512, 128]⟩
abbrev S512x256 : Shape := ⟨2, ![512, 256]⟩
abbrev S32x512 : Shape := ⟨2, ![32, 512]⟩
abbrev S32 : Shape := ⟨1, ![32]⟩
abbrev S2x128 : Shape := ⟨2, ![2, 128]⟩
abbrev S2 : Shape := ⟨1, ![2]⟩
abbrev S2x1 : Shape := ⟨2, ![2, 1]⟩
abbrev S1x128 : Shape := ⟨2, ![1, 128]⟩
abbrev S1x256 : Shape := ⟨2, ![1, 256]⟩

abbrev nBuf : Space → Nat
  | .hbm => 19
  | .vmem => 27
  | .smem => 0
  | _ => 0

abbrev bufTy : (tb : Table) → Fin (tcTables nBuf tb) → BufTy
  | .hbm, ⟨0, _⟩ => ⟨S16x1x4096, .bf16⟩
  | .hbm, ⟨1, _⟩ => ⟨S16x1x2x128, .bf16⟩
  | .hbm, ⟨2, _⟩ => ⟨S16x1x2x128, .bf16⟩
  | .hbm, ⟨3, _⟩ => ⟨S16x131072x2x128, .i8⟩
  | .hbm, ⟨4, _⟩ => ⟨S16x131072x2, .f32⟩
  | .hbm, ⟨5, _⟩ => ⟨S16x131072x2x128, .i8⟩
  | .hbm, ⟨6, _⟩ => ⟨S16x131072x2, .f32⟩
  | .hbm, ⟨7, _⟩ => ⟨S16x32x128, .bf16⟩
  | .hbm, ⟨8, _⟩ => ⟨S16x2x128, .bf16⟩
  | .hbm, ⟨9, _⟩ => ⟨S16x2x128, .bf16⟩
  | .hbm, ⟨10, _⟩ => ⟨S16x2x131072x128, .i8⟩
  | .hbm, ⟨11, _⟩ => ⟨S16x2x131072x128, .i8⟩
  | .hbm, ⟨12, _⟩ => ⟨S16x2x131072, .f32⟩
  | .hbm, ⟨13, _⟩ => ⟨S16x2x131072, .f32⟩
  | .hbm, ⟨14, _⟩ => ⟨S16x32x128, .bf16⟩
  | .hbm, ⟨15, _⟩ => ⟨S16x2x128, .i8⟩
  | .hbm, ⟨16, _⟩ => ⟨S16x2x1, .f32⟩
  | .hbm, ⟨17, _⟩ => ⟨S16x2x128, .i8⟩
  | .hbm, ⟨18, _⟩ => ⟨S16x2x1, .f32⟩
  | .local _ .vmem, ⟨0, _⟩ => ⟨S1x32x128, .bf16⟩
  | .local _ .vmem, ⟨1, _⟩ => ⟨S1x32x128, .bf16⟩
  | .local _ .vmem, ⟨2, _⟩ => ⟨S1x2x128, .bf16⟩
  | .local _ .vmem, ⟨3, _⟩ => ⟨S1x2x128, .bf16⟩
  | .local _ .vmem, ⟨4, _⟩ => ⟨S1x2x128, .bf16⟩
  | .local _ .vmem, ⟨5, _⟩ => ⟨S1x2x128, .bf16⟩
  | .local _ .vmem, ⟨6, _⟩ => ⟨S1x2x4096x128, .i8⟩
  | .local _ .vmem, ⟨7, _⟩ => ⟨S1x2x4096x128, .i8⟩
  | .local _ .vmem, ⟨8, _⟩ => ⟨S1x2x4096, .f32⟩
  | .local _ .vmem, ⟨9, _⟩ => ⟨S1x2x4096, .f32⟩
  | .local _ .vmem, ⟨10, _⟩ => ⟨S1x2x4096x128, .i8⟩
  | .local _ .vmem, ⟨11, _⟩ => ⟨S1x2x4096x128, .i8⟩
  | .local _ .vmem, ⟨12, _⟩ => ⟨S1x2x4096, .f32⟩
  | .local _ .vmem, ⟨13, _⟩ => ⟨S1x2x4096, .f32⟩
  | .local _ .vmem, ⟨14, _⟩ => ⟨S1x32x128, .bf16⟩
  | .local _ .vmem, ⟨15, _⟩ => ⟨S1x32x128, .bf16⟩
  | .local _ .vmem, ⟨16, _⟩ => ⟨S1x2x128, .i8⟩
  | .local _ .vmem, ⟨17, _⟩ => ⟨S1x2x128, .i8⟩
  | .local _ .vmem, ⟨18, _⟩ => ⟨S1x2x1, .f32⟩
  | .local _ .vmem, ⟨19, _⟩ => ⟨S1x2x1, .f32⟩
  | .local _ .vmem, ⟨20, _⟩ => ⟨S1x2x128, .i8⟩
  | .local _ .vmem, ⟨21, _⟩ => ⟨S1x2x128, .i8⟩
  | .local _ .vmem, ⟨22, _⟩ => ⟨S1x2x1, .f32⟩
  | .local _ .vmem, ⟨23, _⟩ => ⟨S1x2x1, .f32⟩
  | .local _ .vmem, ⟨24, _⟩ => ⟨S32x1, .f32⟩
  | .local _ .vmem, ⟨25, _⟩ => ⟨S32x1, .f32⟩
  | .local _ .vmem, ⟨26, _⟩ => ⟨S32x256, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v598 : BitVec 1 := Scalar.cmpi .eq arg1 c31_i32
  let v599 : BitVec 32 := Scalar.extui v598
  let c0_i32_362 : BitVec 32 := 0#32
  let v600 : BitVec 1 := Scalar.cmpi .ne v599 c0_i32_362
  v600

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4096x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16x1x4096 : Shape := ⟨3, ![16, 1, 4096]⟩
abbrev S16x1x2x128 : Shape := ⟨4, ![16, 1, 2, 128]⟩
abbrev S16x131072x2x128 : Shape := ⟨4, ![16, 131072, 2, 128]⟩
abbrev S16x131072x2 : Shape := ⟨3, ![16, 131072, 2]⟩
abbrev S_ : Shape := ⟨0, ![]⟩
abbrev S16x1x2 : Shape := ⟨3, ![16, 1, 2]⟩
abbrev S16x1x2x1 : Shape := ⟨4, ![16, 1, 2, 1]⟩
abbrev S16x1x2x16x128 : Shape := ⟨5, ![16, 1, 2, 16, 128]⟩
abbrev S16x131072x2x1 : Shape := ⟨4, ![16, 131072, 2, 1]⟩
abbrev S16x131073x2x128 : Shape := ⟨4, ![16, 131073, 2, 128]⟩
abbrev S16x2x131073x1x16 : Shape := ⟨5, ![16, 2, 131073, 1, 16]⟩
abbrev S16x2x16x1x131073 : Shape := ⟨5, ![16, 2, 16, 1, 131073]⟩
abbrev S131073 : Shape := ⟨1, ![131073]⟩
abbrev S1x131073 : Shape := ⟨2, ![1, 131073]⟩
abbrev S1 : Shape := ⟨1, ![1]⟩
abbrev S1x1 : Shape := ⟨2, ![1, 1]⟩
abbrev S16x2x16x1 : Shape := ⟨4, ![16, 2, 16, 1]⟩
abbrev S16x2x16x1x1 : Shape := ⟨5, ![16, 2, 16, 1, 1]⟩
abbrev S16x2x16x1x128 : Shape := ⟨5, ![16, 2, 16, 1, 128]⟩
abbrev S16x32x128 : Shape := ⟨3, ![16, 32, 128]⟩
abbrev S16x2x128 : Shape := ⟨3, ![16, 2, 128]⟩
abbrev S16x2x1 : Shape := ⟨3, ![16, 2, 1]⟩

abbrev nBuf : Space → Nat
  | .hbm => 129
  | .vmem => 0
  | .smem => 0
  | _ => 0

abbrev hbmTy0_0 (i : Nat) : BufTy := match i % 128 with
  | 0 => ⟨S16x1x4096, .bf16⟩
  | 1 => ⟨S16x1x2x128, .bf16⟩
  | 2 => ⟨S16x1x2x128, .bf16⟩
  | 3 => ⟨S16x131072x2x128, .i8⟩
  | 4 => ⟨S16x131072x2, .f32⟩
  | 5 => ⟨S16x131072x2x128, .i8⟩
  | 6 => ⟨S16x131072x2, .f32⟩
  | 7 => ⟨S16x1x2x128, .f32⟩
  | 8 => ⟨S16x1x2x128, .f32⟩
  | 9 => ⟨S_, .f32⟩
  | 10 => ⟨S16x1x2, .f32⟩
  | 11 => ⟨S_, .f32⟩
  | 12 => ⟨S16x1x2, .f32⟩
  | 13 => ⟨S16x1x2, .i1⟩
  | 14 => ⟨S_, .f32⟩
  | 15 => ⟨S16x1x2, .f32⟩
  | 16 => ⟨S16x1x2, .f32⟩
  | 17 => ⟨S_, .f32⟩
  | 18 => ⟨S_, .f32⟩
  | 19 => ⟨S16x1x2, .f32⟩
  | 20 => ⟨S16x1x2, .f32⟩
  | 21 => ⟨S16x1x2x1, .f32⟩
  | 22 => ⟨S16x1x2x128, .f32⟩
  | 23 => ⟨S16x1x2x128, .f32⟩
  | 24 => ⟨S16x1x2x128, .f32⟩
  | 25 => ⟨S_, .f32⟩
  | 26 => ⟨S_, .f32⟩
  | 27 => ⟨S_, .f32⟩
  | 28 => ⟨S16x1x2x128, .f32⟩
  | 29 => ⟨S16x1x2x128, .f32⟩
  | 30 => ⟨S_, .f32⟩
  | 31 => ⟨S16x1x2x128, .f32⟩
  | 32 => ⟨S16x1x2x128, .f32⟩
  | 33 => ⟨S16x1x2x128, .i32⟩
  | 34 => ⟨S16x1x2x128, .i8⟩
  | 35 => ⟨S16x1x2x128, .f32⟩
  | 36 => ⟨S16x1x2x128, .f32⟩
  | 37 => ⟨S_, .f32⟩
  | 38 => ⟨S16x1x2, .f32⟩
  | 39 => ⟨S_, .f32⟩
  | 40 => ⟨S16x1x2, .f32⟩
  | 41 => ⟨S16x1x2, .i1⟩
  | 42 => ⟨S_, .f32⟩
  | 43 => ⟨S16x1x2, .f32⟩
  | 44 => ⟨S16x1x2, .f32⟩
  | 45 => ⟨S_, .f32⟩
  | 46 => ⟨S_, .f32⟩
  | 47 => ⟨S16x1x2, .f32⟩
  | 48 => ⟨S16x1x2, .f32⟩
  | 49 => ⟨S16x1x2x1, .f32⟩
  | 50 => ⟨S16x1x2x128, .f32⟩
  | 51 => ⟨S16x1x2x128, .f32⟩
  | 52 => ⟨S16x1x2x128, .f32⟩
  | 53 => ⟨S_, .f32⟩
  | 54 => ⟨S_, .f32⟩
  | 55 => ⟨S_, .f32⟩
  | 56 => ⟨S16x1x2x128, .f32⟩
  | 57 => ⟨S16x1x2x128, .f32⟩
  | 58 => ⟨S_, .f32⟩
  | 59 => ⟨S16x1x2x128, .f32⟩
  | 60 => ⟨S16x1x2x128, .f32⟩
  | 61 => ⟨S16x1x2x128, .i32⟩
  | 62 => ⟨S16x1x2x128, .i8⟩
  | 63 => ⟨S16x1x2x16x128, .bf16⟩
  | 64 => ⟨S16x131072x2x128, .i32⟩
  | 65 => ⟨S16x131072x2x128, .bf16⟩
  | 66 => ⟨S16x131072x2x1, .f32⟩
  | 67 => ⟨S16x131072x2x1, .bf16⟩
  | 68 => ⟨S16x131072x2x128, .bf16⟩
  | 69 => ⟨S16x131072x2x128, .bf16⟩
  | 70 => ⟨S16x1x2x128, .i32⟩
  | 71 => ⟨S16x1x2x128, .bf16⟩
  | 72 => ⟨S16x1x2x1, .f32⟩
  | 73 => ⟨S16x1x2x1, .bf16⟩
  | 74 => ⟨S16x1x2x128, .bf16⟩
  | 75 => ⟨S16x1x2x128, .bf16⟩
  | 76 => ⟨S16x131073x2x128, .bf16⟩
  | 77 => ⟨S16x131072x2x128, .i32⟩
  | 78 => ⟨S16x131072x2x128, .bf16⟩
  | 79 => ⟨S16x131072x2x1, .f32⟩
  | 80 => ⟨S16x131072x2x1, .bf16⟩
  | 81 => ⟨S16x131072x2x128, .bf16⟩
  | 82 => ⟨S16x131072x2x128, .bf16⟩
  | 83 => ⟨S16x1x2x128, .i32⟩
  | 84 => ⟨S16x1x2x128, .bf16⟩
  | 85 => ⟨S16x1x2x1, .f32⟩
  | 86 => ⟨S16x1x2x1, .bf16⟩
  | 87 => ⟨S16x1x2x128, .bf16⟩
  | 88 => ⟨S16x1x2x128, .bf16⟩
  | 89 => ⟨S16x131073x2x128, .bf16⟩
  | 90 => ⟨S16x2x131073x1x16, .f32⟩
  | 91 => ⟨S16x2x16x1x131073, .f32⟩
  | 92 => ⟨S_, .f32⟩
  | 93 => ⟨S16x2x16x1x131073, .f32⟩
  | 94 => ⟨S16x2x16x1x131073, .f32⟩
  | 95 => ⟨S131073, .i32⟩
  | 96 => ⟨S1x131073, .i32⟩
  | 97 => ⟨S1, .i32⟩
  | 98 => ⟨S1x1, .i32⟩
  | 99 => ⟨S_, .i32⟩
  | 100 => ⟨S1x1, .i32⟩
  | 101 => ⟨S1x1, .i32⟩
  | 102 => ⟨S1x131073, .i32⟩
  | 103 => ⟨S1x131073, .i1⟩
  | 104 => ⟨S_, .f32⟩
  | 105 => ⟨S_, .f32⟩
  | 106 => ⟨S16x2x16x1x131073, .i1⟩
  | 107 => ⟨S16x2x16x1x131073, .f32⟩
  | 108 => ⟨S16x2x16x1x131073, .f32⟩
  | 109 => ⟨S_, .f32⟩
  | 110 => ⟨S16x2x16x1, .f32⟩
  | 111 => ⟨S16x2x16x1x1, .f32⟩
  | 112 => ⟨S16x2x16x1x131073, .f32⟩
  | 113 => ⟨S16x2x16x1x131073, .f32⟩
  | 114 => ⟨S16x2x16x1x131073, .f32⟩
  | 115 => ⟨S_, .f32⟩
  | 116 => ⟨S16x2x16x1, .f32⟩
  | 117 => ⟨S16x2x16x1x1, .f32⟩
  | 118 => ⟨S16x131073x2x128, .f32⟩
  | 119 => ⟨S16x2x16x1x128, .f32⟩
  | 120 => ⟨S16x2x16x1x128, .f32⟩
  | 121 => ⟨S16x2x16x1x128, .f32⟩
  | 122 => ⟨S16x1x2x16x128, .f32⟩
  | 123 => ⟨S16x32x128, .f32⟩
  | 124 => ⟨S16x32x128, .bf16⟩
  | 125 => ⟨S16x2x128, .i8⟩
  | 126 => ⟨S16x2x1, .f32⟩
  | 127 => ⟨S16x2x128, .i8⟩
  | _ => ⟨S16x1x4096, .bf16⟩

abbrev hbmTy0_1 (i : Nat) : BufTy := match i % 128 with
  | 0 => ⟨S16x2x1, .f32⟩
  | _ => ⟨S16x1x4096, .bf16⟩

abbrev hbmTy (i : Nat) : BufTy := match i / 128 with
  | 0 => hbmTy0_0 i
  | 1 => hbmTy0_1 i
  | _ => ⟨S16x1x4096, .bf16⟩

abbrev bufTy : (tb : Table) → Fin (tcTables nBuf tb) → BufTy
  | .hbm, ⟨i, _⟩ => hbmTy i
  | _, _ => ⟨S16x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_cst_10 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩

abbrev nD : Nat := 1
abbrev τ : Topo := Topo.v7x

variable {F : FTy → Type} [FloatOps F]
-- ==== Proof.Softmax.lean ====
/-
The running softmax over the extended reals: the largest score, the sum of the exponentials and the weighted sum of
the values of the first `n` tokens, and how each of the three is carried on when `k` further tokens are read.
-/
module

public import Idealize.ShloMosaic.PureOps.Ideal

@[expose] public section

noncomputable section

namespace Cert.Softmax

open Idealize.ShloMosaic

/-- The largest of the first `n` scores (`-∞` when there is none). -/
def top (s : ℕ → EReal) (n : ℕ) : EReal := (Finset.range n).sup s

/-- The sum of the exponentials of the first `n` scores, each less the largest of them. -/
def mass (s : ℕ → EReal) (n : ℕ) : EReal := ∑ t ∈ Finset.range n, Ideal.exp (s t - top s n)

/-- The sum of the first `n` values, each weighted by the exponential of its score less the largest score. -/
def wsum (s v : ℕ → EReal) (n : ℕ) : EReal := ∑ t ∈ Finset.range n, Ideal.exp (s t - top s n) * v t

/-- No exponential is negative. -/
theorem exp_nonneg (x : EReal) : 0 ≤ Ideal.exp x := by
  induction x with
  | bot => simp
  | top => simp
  | coe r => simpa using (Real.exp_pos r).le

/-- The exponential of a difference with something at least as large is not `+∞`. -/
theorem exp_sub_ne_top {a b : EReal} (h : a ≤ b) : Ideal.exp (a - b) ≠ ⊤ := by
  induction a with
  | bot => simp
  | top => rw [top_le_iff.mp h]; simp
  | coe r =>
    induction b with
    | bot => simp at h
    | top => simp
    | coe q => rw [← EReal.coe_sub, Ideal.exp_coe]; exact EReal.coe_ne_top _

/-- Rescaling: below a largest score `m` and below a larger one `m'`, an exponential taken from `m` and multiplied by
the exponential of `m - m'` is the exponential taken from `m'`. -/
theorem exp_rescale {a m m' : EReal} (h : a ≤ m) (h' : m ≤ m') :
    Ideal.exp (a - m) * Ideal.exp (m - m') = Ideal.exp (a - m') := by
  induction a with
  | bot => simp
  | top => rw [top_le_iff.mp h] at h' ⊢; rw [top_le_iff.mp h']; simp
  | coe r =>
    induction m with
    | bot => simp at h
    | top => rw [top_le_iff.mp h']; simp
    | coe q =>
      induction m' with
      | bot => simp at h'
      | top => simp
      | coe p =>
        rw [← EReal.coe_sub, ← EReal.coe_sub, ← EReal.coe_sub, Ideal.exp_coe, Ideal.exp_coe, Ideal.exp_coe,
          ← EReal.coe_mul, ← Real.exp_add]
        congr 2
        ring

/-- A product with a factor that is neither negative nor `+∞` distributes over a finite sum. -/
theorem sum_mul_of_nonneg {ι : Type*} (S : Finset ι) (f : ι → EReal) {c : EReal} (h : 0 ≤ c) (h' : c ≠ ⊤) :
    (∑ i ∈ S, f i) * c = ∑ i ∈ S, f i * c := by
  classical
  induction S using Finset.induction_on with
  | empty => simp
  | insert i S hi ih =>
    rw [Finset.sum_insert hi, Finset.sum_insert hi, EReal.right_distrib_of_nonneg_of_ne_top h h', ih]

theorem le_top {s : ℕ → EReal} {n t : ℕ} (h : t ∈ Finset.range n) : s t ≤ top s n := Finset.le_sup h

/-- The largest of the first `n + k` scores is the larger of the largest of the first `n` and of the next `k`. -/
theorem top_add (s : ℕ → EReal) (n k : ℕ) :
    top s (n + k) = max (top s n) ((Finset.univ : Finset (Fin k)).sup fun j => s (n + j.val)) := by
  apply le_antisymm
  · refine Finset.sup_le fun t ht => ?_
    rw [Finset.mem_range] at ht
    by_cases h : t < n
    · exact le_max_of_le_left (le_top (Finset.mem_range.mpr h))
    · refine le_max_of_le_right ?_
      have := Finset.le_sup (f := fun j : Fin k => s (n + j.val)) (Finset.mem_univ ⟨t - n, by omega⟩)
      have e : n + (t - n) = t := by omega
      simpa only [e] using this
  · refine max_le (Finset.sup_le fun t ht => ?_) (Finset.sup_le fun j _ => ?_)
    · exact le_top (Finset.mem_range.mpr (by rw [Finset.mem_range] at ht; omega))
    · exact le_top (Finset.mem_range.mpr (by have := j.isLt; omega))

theorem top_le_add (s : ℕ → EReal) (n k : ℕ) : top s n ≤ top s (n + k) := by
  rw [top_add]; exact le_max_left _ _

/-- The weighted sum over the first `n + k` tokens: the one over the first `n`, rescaled, plus the next `k` terms. -/
theorem wsum_add (s v : ℕ → EReal) (n k : ℕ) :
    wsum s v (n + k) = wsum s v n * Ideal.exp (top s n - top s (n + k))
      + ∑ j : Fin k, Ideal.exp (s (n + j.val) - top s (n + k)) * v (n + j.val) := by
  unfold wsum
  rw [Finset.sum_range_add, sum_mul_of_nonneg _ _ (exp_nonneg _) (exp_sub_ne_top (top_le_add s n k)),
    Finset.sum_range (n := k)]
  congr 1
  refine Finset.sum_congr rfl fun t ht => ?_
  rw [mul_right_comm, exp_rescale (le_top ht) (top_le_add s n k)]

theorem mass_eq_wsum (s : ℕ → EReal) (n : ℕ) : mass s n = wsum s (fun _ => 1) n := by
  simp only [mass, wsum, mul_one]

/-- The sum of the exponentials over the first `n + k` tokens: the one over the first `n`, rescaled, plus the next
`k` terms. -/
theorem mass_add (s : ℕ → EReal) (n k : ℕ) :
    mass s (n + k) = mass s n * Ideal.exp (top s n - top s (n + k))
      + ∑ j : Fin k, Ideal.exp (s (n + j.val) - top s (n + k)) := by
  rw [mass_eq_wsum, wsum_add, ← mass_eq_wsum]
  simp only [mul_one]

theorem top_zero (s : ℕ → EReal) : top s 0 = ⊥ := by simp [top]
theorem mass_zero (s : ℕ → EReal) : mass s 0 = 0 := by simp [mass]
theorem wsum_zero (s v : ℕ → EReal) : wsum s v 0 = 0 := by simp [wsum]

/-- The three over all of `n` tokens, the tokens numbered by `Fin n`. -/
theorem top_fin (s : ℕ → EReal) (n : ℕ) : top s n = (Finset.univ : Finset (Fin n)).sup fun j => s j.val := by
  have := top_add s 0 n
  simpa [top_zero] using this

theorem mass_fin (s : ℕ → EReal) (n : ℕ) : mass s n = ∑ j : Fin n, Ideal.exp (s j.val - top s n) := by
  rw [mass, Finset.sum_range]

theorem wsum_fin (s v : ℕ → EReal) (n : ℕ) :
    wsum s v n = ∑ j : Fin n, Ideal.exp (s j.val - top s n) * v j.val := by
  rw [wsum, Finset.sum_range]

end Cert.Softmax

end

end
-- ==== Proof.Spec.lean ====
/-
What one decode step computes, over the extended reals and by coordinates: the int8 quantiser of a row of 128 numbers,
the dequantised keys and values of the 131073 tokens (131072 from the cache, then the new one), the scores, and the
attention output. Both programs are compared with these functions.
-/
module

public import proofs.«01_k».proof.Proof.Softmax
public import Idealize.ShloMosaic.Lib.ValueIdx
public import Idealize.ShloMosaic.PureOps.Ideal.Laws

@[expose] public section

noncomputable section

namespace Cert.Spec

open Idealize.ShloMosaic Idealize.ShloMosaic.ValueIdx

/-! ## The quantiser of one row -/

/-- The largest magnitude in the row. -/
def absmax (v : Fin 128 → EReal) : EReal := (Finset.univ : Finset (Fin 128)).sup fun d => max (v d) (-(v d))

/-- The row's scale: its largest magnitude over 127, or 1 where that magnitude is not positive. -/
def qscale (v : Fin 128 → EReal) : EReal :=
  Scalar.select (Ideal.cmp .ogt (absmax v) (Ideal.ofBits .f32 0x00000000#32))
    (Ideal.div (absmax v) (Ideal.ofBits .f32 0x42FE0000#32)) (Ideal.ofBits .f32 0x3F800000#32)

/-- The row's codes before they are stored as integers: the rounded quotient, clipped to [-127, 127]. -/
def qval (v : Fin 128 → EReal) (d : Fin 128) : EReal :=
  min (Ideal.ofBits .f32 0x42FE0000#32) (max (Ideal.ofBits .f32 0xC2FE0000#32)
    (Ideal.liftRound Ideal.roundHalfEven (Ideal.div (v d) (qscale v))))

/-- The row's int8 codes. -/
def qcode (v : Fin 128 → EReal) (d : Fin 128) : BitVec 8 := Ideal.fptosi 8 (qval v d)

theorem ofBits_127 : Ideal.ofBits .f32 0x42FE0000#32 = ((127 : ℝ) : EReal) := by
  simp [Ideal.ofBits, Ideal.ieee, -EReal.coe_mul]; norm_num
theorem ofBits_neg_127 : Ideal.ofBits .f32 0xC2FE0000#32 = ((-127 : ℝ) : EReal) := by
  simp [Ideal.ofBits, Ideal.ieee, -EReal.coe_mul, -EReal.coe_neg]; norm_num
theorem ofBits_neg_inf : Ideal.ofBits .f32 0xFF800000#32 = (⊥ : EReal) := by
  simp [Ideal.ofBits, Ideal.ieee]

/-- A code before it is stored is an integer of [-127, 127]. -/
theorem qval_int (v : Fin 128 → EReal) (d : Fin 128) :
    ∃ n : ℤ, -127 ≤ n ∧ n ≤ 127 ∧ qval v d = ((n : ℝ) : EReal) := by
  unfold qval
  rw [ofBits_127, ofBits_neg_127]
  generalize Ideal.div (v d) (qscale v) = y
  induction y with
  | bot => exact ⟨-127, by norm_num, by norm_num, by
      rw [Ideal.liftRound_bot, max_eq_left bot_le, min_eq_right (by exact_mod_cast (by norm_num : (-127 : ℝ) ≤ 127))]
      norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

theorem toIntClamped_int (lo hi n : ℤ) : Ideal.toIntClamped lo hi ((n : ℝ) : EReal) = max lo (min hi n) := by
  rw [Ideal.toIntClamped_coe]; simp

/-- The code through int32: converting to int32 and truncating to int8 gives the int8 code. -/
theorem setWidth_fptosi (v : Fin 128 → EReal) (d : Fin 128) :
    (Ideal.fptosi 32 (qval v d)).setWidth 8 = qcode v d := by
  obtain ⟨n, h0, h1, e⟩ := qval_int v d
  rw [qcode, e, Ideal.fptosi, Ideal.fptosi, toIntClamped_int, toIntClamped_int]
  rw [show max (-((2 ^ (32 - 1) : ℕ) : ℤ)) (min (((2 ^ (32 - 1) : ℕ) : ℤ) - 1) n) = n by omega,
    show max (-((2 ^ (8 - 1) : ℕ) : ℤ)) (min (((2 ^ (8 - 1) : ℕ) : ℤ) - 1) n) = n by omega]
  apply BitVec.eq_of_toInt_eq
  rw [BitVec.toInt_setWidth, BitVec.toInt_ofInt, BitVec.toNat_ofInt]
  simp only [Int.bmod_def]
  omega

/-- The stored code read as a number is the code before it was stored. -/
theorem toInt_qcode (v : Fin 128 → EReal) (d : Fin 128) : (((qcode v d).toInt : ℝ) : EReal) = qval v d := by
  obtain ⟨n, h0, h1, e⟩ := qval_int v d
  rw [qcode, e, Ideal.fptosi, toIntClamped_int,
    show max (-((2 ^ (8 - 1) : ℕ) : ℤ)) (min (((2 ^ (8 - 1) : ℕ) : ℤ) - 1) n) = n by omega, BitVec.toInt_ofInt]
  congr 2
  simp only [Int.bmod_def]
  omega

/-! ## The tokens, the scores and the output -/

section
variable (x : (⟨3, ![16, 1, 4096]⟩ : Shape).Idx → EReal) (new : (⟨4, ![16, 1, 2, 128]⟩ : Shape).Idx → EReal)
  (codes : (⟨4, ![16, 131072, 2, 128]⟩ : Shape).Idx → BitVec 8) (scales : (⟨3, ![16, 131072, 2]⟩ : Shape).Idx → EReal)

/-- The new token's row of batch `b` and head `h`. -/
def newRow (b : Fin 16) (h : Fin 2) (d : Fin 128) : EReal := new (ix4 b 0 h d)

/-- Coordinate `d` of token `t` of batch `b` and head `h`, dequantised (keys and values alike): a cache token's code times its scale,
and after the cache the new token's code times its scale. -/
def token (b : Fin 16) (h : Fin 2) (d : Fin 128) (t : ℕ) : EReal :=
  if ht : t < 131072 then ((codes (ix4 b ⟨t, ht⟩ h d)).toInt : ℝ) * scales (ix3 b ⟨t, ht⟩ h)
  else qval (newRow new b h) d * qscale (newRow new b h)

/-- The head that query row `r` attends with: sixteen rows to a head. -/
def headOf (r : Fin 32) : Fin 2 := ⟨r.val / 16, by omega⟩

/-- Coordinate `d` of query row `r` of batch `b`. -/
def query (b : Fin 16) (r : Fin 32) (d : Fin 128) : EReal := x (ix3 b 0 ⟨128 * r.val + d.val, by omega⟩)

/-- The score of token `t` for query row `r`: the scaled product of the query and the key. -/
def score (b : Fin 16) (r : Fin 32) (t : ℕ) : EReal :=
  (∑ d : Fin 128, query x b r d * token new codes scales b (headOf r) d t) * Ideal.ofBits .f32 0x3DB504F3#32

end

/-- The attention output: the softmax-weighted sum of the values over the sum of the weights, over all 131073 tokens. -/
def out (x : (⟨3, ![16, 1, 4096]⟩ : Shape).Idx → EReal) (kn vn : (⟨4, ![16, 1, 2, 128]⟩ : Shape).Idx → EReal)
    (kc : (⟨4, ![16, 131072, 2, 128]⟩ : Shape).Idx → BitVec 8) (ks : (⟨3, ![16, 131072, 2]⟩ : Shape).Idx → EReal)
    (vc : (⟨4, ![16, 131072, 2, 128]⟩ : Shape).Idx → BitVec 8) (vs : (⟨3, ![16, 131072, 2]⟩ : Shape).Idx → EReal)
    (b : Fin 16) (r : Fin 32) (d : Fin 128) : EReal :=
  Ideal.div (Softmax.wsum (score x kn kc ks b r) (token vn vc vs b (headOf r) d) 131073)
    (Softmax.mass (score x kn kc ks b r) 131073)

end Cert.Spec

end

end
-- ==== Proof.Ref.lean ====
/-
The reference read at an index: each of its five results is the function of `Spec.lean` at the same coordinates.
-/
module

public import proofs.«01_k».proof.Proof.Spec
public import proofs.«01_k».proof.Proof.Gen.ReferenceIdeal.Read
public import Idealize.ShloMosaic.Lib.KernelVsHost

@[expose] public section

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The host's maximum over one axis, from `-∞`, is the least upper bound along that axis. -/
theorem hostMax_single {s t : Shape} {a : Fin s.rank} (x : FVec Ideal s .f32) (h' : s.ReducesTo [a] t)
    (hu : 0 < S_.numel) (h : s.Reduces [a] t) (j : t.Idx) :
    Host.reduce FloatOps.maximumf x (constant S_ .f32 0xFF800000#32) h' hu j
      = (Finset.univ : Finset (Fin (s.size a))).sup fun k => x (h.lift j k) := by
  refine (congrFun (hostReduce_maximumf_eq_multiReduction x 0xFF800000#32 h' hu h (.inl rfl) rfl) j).trans
    ((Ideal.multiReduction_maximumf_single x _ h (.inl rfl) rfl j).trans ?_)
  show Finset.fold max (Ideal.ofBits .f32 0xFF800000#32) _ _ = _
  rw [Spec.ofBits_neg_inf]
  rfl

/-! ## The quantiser -/

/-- The largest magnitude of the new key's row. -/
theorem v2_apply (x1 : S16x1x2x128.Idx → EReal) (b : Fin 16) (h : Fin 2) :
    val_main_v2 (F := Ideal) x1 (ix3 b 0 h) = Spec.absmax (Spec.newRow x1 b h) := by
  have hr : S16x1x2x128.Reduces [3] S16x1x2 := by decide
  unfold val_main_v2 val_main_cst
  rw [hostMax_single _ _ _ hr]
  unfold Spec.absmax
  refine Finset.sup_congr rfl fun d _ => ?_
  have e : hr.lift (ix3 b 0 h) d = ix4 b 0 h d := funext fun a => Fin.ext (by
    rw [Shape.Reduces.lift_val]; fin_cases a <;> rfl)
  show val_main_v1 (F := Ideal) x1 (hr.lift (ix3 b 0 h) d) = _
  rw [e]
  rfl

/-- The new key's scale. -/
theorem v7_apply (x1 : S16x1x2x128.Idx → EReal) (b : Fin 16) (h : Fin 2) :
    val_main_v7 (F := Ideal) x1 (ix3 b 0 h) = Spec.qscale (Spec.newRow x1 b h) := by
  rw [val_main_v7_apply, val_main_v4_apply, val_main_v6_apply, v2_apply, val_main_v3_apply, val_main_v5_apply,
    val_main_call0_v1_apply]
  rfl

/-- The new key's codes before they are stored. -/
theorem v12_apply (x1 : S16x1x2x128.Idx → EReal) (b : Fin 16) (h : Fin 2) (d : Fin 128) :
    val_main_v12 (F := Ideal) x1 (ix4 b 0 h d) = Spec.qval (Spec.newRow x1 b h) d := by
  rw [val_main_v12_apply, val_main_call2_v4_apply, val_main_call2_v2_apply, val_main_call2_v1_apply, val_main_v11_apply,
    val_main_v10_apply, val_main_v9_apply, val_main_v8_apply]
  have e : idx_main_v8 (idx_main_v9 (ix4 b 0 h d)) = ix3 b 0 h := funext fun a => by fin_cases a <;> rfl
  rw [e, v7_apply]
  rfl

/-- The new key's codes. -/
theorem v14_apply (x1 : S16x1x2x128.Idx → EReal) (b : Fin 16) (h : Fin 2) (d : Fin 128) :
    val_main_v14 (F := Ideal) x1 (ix4 b 0 h d) = Spec.qcode (Spec.newRow x1 b h) d := by
  rw [val_main_v14_apply, val_main_v13_apply, v12_apply]
  exact Spec.setWidth_fptosi _ _

/-- The new value goes through the operations of the new key. -/
theorem v22_eq (x2 : S16x1x2x128.Idx → EReal) : val_main_v22 (F := Ideal) x2 = val_main_v7 (F := Ideal) x2 := rfl
theorem v29_eq (x2 : S16x1x2x128.Idx → EReal) : val_main_v29 (F := Ideal) x2 = val_main_v14 (F := Ideal) x2 := rfl

/-- RESULT 2: the new key's codes. -/
theorem v84_apply (x1 : S16x1x2x128.Idx → EReal) (b : Fin 16) (h : Fin 2) (d : Fin 128) :
    val_main_v84 (F := Ideal) x1 (ix3 b h d) = Spec.qcode (Spec.newRow x1 b h) d := by
  rw [val_main_v84_apply, ← v14_apply]
  congr 1
  funext a
  apply Fin.ext
  have hb := b.isLt; have hh := h.isLt; have hd := d.isLt
  match a with
  | ⟨0, _⟩ => show ((b.val * 2 + h.val) * 128 + d.val) / 256 = b.val; omega
  | ⟨1, _⟩ => rfl
  | ⟨2, _⟩ => show ((b.val * 2 + h.val) * 128 + d.val) / 128 % 2 = h.val; omega
  | ⟨3, _⟩ => show ((b.val * 2 + h.val) * 128 + d.val) % 128 = d.val; omega

/-- RESULT 3: the new key's scales. -/
theorem v85_apply (x1 : S16x1x2x128.Idx → EReal) (b : Fin 16) (h : Fin 2) :
    val_main_v85 (F := Ideal) x1 (ix3 b h 0) = Spec.qscale (Spec.newRow x1 b h) := by
  rw [val_main_v85_apply, ← v7_apply]
  congr 1
  funext a
  apply Fin.ext
  have hb := b.isLt; have hh := h.isLt
  match a with
  | ⟨0, _⟩ => show ((b.val * 2 + h.val) * 1 + 0) / 2 = b.val; omega
  | ⟨1, _⟩ => rfl
  | ⟨2, _⟩ => show ((b.val * 2 + h.val) * 1 + 0) % 2 = h.val; omega

/-- RESULTS 4 and 5: the new value's codes and scales, read as the new key's. -/
theorem v86_eq (x2 : S16x1x2x128.Idx → EReal) : val_main_v86 (F := Ideal) x2 = val_main_v84 (F := Ideal) x2 := rfl
theorem v87_eq (x2 : S16x1x2x128.Idx → EReal) : val_main_v87 (F := Ideal) x2 = val_main_v85 (F := Ideal) x2 := rfl

/-! ## The keys and values of all tokens -/

/-- A cache token dequantised. -/
theorem v36_apply (x3 : S16x131072x2x128.Idx → BitVec 8) (x4 : S16x131072x2.Idx → EReal) (b : Fin 16) (t : Fin 131072)
    (h : Fin 2) (d : Fin 128) :
    val_main_v36 (F := Ideal) x3 x4 (ix4 b t h d) = (((x3 (ix4 b t h d)).toInt : ℝ) : EReal) * x4 (ix3 b t h) := by
  rw [val_main_v36_apply, val_main_v32_apply, val_main_v31_apply, val_main_v35_apply, val_main_v34_apply,
    val_main_v33_apply]
  have e : idx_main_v33 (idx_main_v35 (ix4 b t h d)) = ix3 b t h := funext fun a => by fin_cases a <;> rfl
  rw [e]
  show ((((x3 (ix4 b t h d)).signExtend 32).toInt : ℝ) : EReal) * _ = _
  rw [BitVec.toInt_signExtend_of_le (by decide)]
  rfl

/-- The new token quantised and dequantised. -/
theorem v42_apply (x1 : S16x1x2x128.Idx → EReal) (b : Fin 16) (h : Fin 2) (d : Fin 128) :
    val_main_v42 (F := Ideal) x1 (ix4 b 0 h d)
      = Spec.qval (Spec.newRow x1 b h) d * Spec.qscale (Spec.newRow x1 b h) := by
  rw [val_main_v42_apply, val_main_v38_apply, val_main_v37_apply, v14_apply, val_main_v41_apply, val_main_v40_apply,
    val_main_v39_apply]
  have e : idx_main_v39 (idx_main_v41 (ix4 b 0 h d)) = ix3 b 0 h := funext fun a => by fin_cases a <;> rfl
  rw [e, v7_apply, ← Spec.toInt_qcode]
  show ((((Spec.qcode (Spec.newRow x1 b h) d).signExtend 32).toInt : ℝ) : EReal) * _ = _
  rw [BitVec.toInt_signExtend_of_le (by decide)]
  rfl

/-- The keys of all tokens: the cache, then the new token. -/
theorem v43_apply (x1 : S16x1x2x128.Idx → EReal) (x3 : S16x131072x2x128.Idx → BitVec 8) (x4 : S16x131072x2.Idx → EReal)
    (b : Fin 16) (t : Fin 131073) (h : Fin 2) (d : Fin 128) :
    val_main_v43 (F := Ideal) x1 x3 x4 (ix4 b t h d) = Spec.token x1 x3 x4 b h d t.val := by
  unfold val_main_v43 Spec.token
  by_cases ht : t.val < 131072
  · rw [dif_pos ht, concatenate_pair_apply_left (s₁ := S16x131072x2x128) (s₂ := S16x1x2x128) (1 : Fin 4) _ _ _ (ix4 b t h d) rfl
      (ix4 b (⟨t.val, ht⟩ : Fin 131072) h d) (fun a => by fin_cases a <;> rfl), v36_apply]
  · rw [dif_neg ht, concatenate_pair_apply_right (s₁ := S16x131072x2x128) (s₂ := S16x1x2x128) (1 : Fin 4) _ _ _ (ix4 b t h d) rfl rfl
      (ix4 b (0 : Fin 1) h d) (fun a ha => by fin_cases a <;> first | rfl | exact absurd rfl ha)
      (by show 0 + 131072 = t.val; have := t.isLt; omega), v42_apply]

/-- The values go through the operations of the keys. -/
theorem v56_eq (x2 : S16x1x2x128.Idx → EReal) (x5 : S16x131072x2x128.Idx → BitVec 8) (x6 : S16x131072x2.Idx → EReal) :
    val_main_v56 (F := Ideal) x2 x5 x6 = val_main_v43 (F := Ideal) x2 x5 x6 := rfl

/-! ## Scores, softmax, output -/

section
variable (x0 : S16x1x4096.Idx → EReal) (x1 x2 : S16x1x2x128.Idx → EReal)
  (x3 : S16x131072x2x128.Idx → BitVec 8) (x4 : S16x131072x2.Idx → EReal)
  (x5 : S16x131072x2x128.Idx → BitVec 8) (x6 : S16x131072x2.Idx → EReal)

/-- The query row of head `n` and group `g`. -/
abbrev rowOf (n : Fin 2) (g : Fin 16) : Fin 32 := ⟨16 * n.val + g.val, by omega⟩

theorem headOf_rowOf (n : Fin 2) (g : Fin 16) : Spec.headOf (rowOf n g) = n :=
  Fin.ext (by show (16 * n.val + g.val) / 16 = n.val; omega)

theorem v60_apply (b : Fin 16) (n : Fin 2) (g : Fin 16) (t : Fin 131073) :
    val_main_v60 (F := Ideal) x0 x1 x3 x4 (ix5 b n g 0 t) = Spec.score x0 x1 x3 x4 b (rowOf n g) t.val := by
  rw [val_main_v60_apply, val_main_v58_apply, val_main_v57_apply, val_main_v59_apply]
  unfold Spec.score
  show (∑ _, _) * Ideal.ofBits .f32 0x3DB504F3#32 = _
  congr 1
  refine Finset.sum_congr rfl fun k _ => ?_
  have el : lidx_main_v57 (idx_main_v58 (ix5 b n g 0 t)) k = ix4 b t n k := funext fun a => by fin_cases a <;> rfl
  have er : idx_main_v30 (ridx_main_v57 (idx_main_v58 (ix5 b n g 0 t)) k)
      = ix3 b 0 ⟨128 * (rowOf n g).val + k.val, by have := (rowOf n g).isLt; omega⟩ := by
    have hb := b.isLt; have hn := n.isLt; have hg := g.isLt; have hk := k.isLt
    funext a
    apply Fin.ext
    match a with
    | ⟨0, _⟩ => show ((((b.val * 1 + 0) * 2 + n.val) * 16 + g.val) * 128 + k.val) / 4096 = b.val; omega
    | ⟨1, _⟩ => rfl
    | ⟨2, _⟩ =>
      show ((((b.val * 1 + 0) * 2 + n.val) * 16 + g.val) * 128 + k.val) % 4096 = 128 * (16 * n.val + g.val) + k.val
      omega
  rw [val_main_v30_apply, el, er, v43_apply, headOf_rowOf, mul_comm]
  rfl

/-- The causal mask hides nothing: the one query stands at position 131072, the last token's. -/
theorem mask_apply (i : S16x2x16x1x131073.Idx) : val_main_call6_v1 (F := Ideal) i = 1#1 := by
  rw [val_main_call6_v1_apply, val_main_v68_apply, val_main_v62_apply, val_main_v61_apply, val_main_v67_apply,
    val_main_v66_apply, val_main_v65_apply, val_main_v64_apply, val_main_v63_apply]
  have h4 : (i 4).val < 131073 := (i 4).isLt
  show IntOp.cmpi .sle (BitVec.ofNat 32 (i 4).val) (131072#32 + BitVec.ofNat 32 0) = 1#1
  show BitVec.ofBool ((BitVec.ofNat 32 (i 4).val).sle _) = 1#1
  rw [BitVec.sle_eq_decide, BitVec.toInt_ofNat', decide_eq_true]
  · rfl
  · simp only [Int.bmod_def]
    rw [show (131072#32 + BitVec.ofNat 32 0).toInt = 131072 by decide]
    omega

theorem v69_apply (b : Fin 16) (n : Fin 2) (g : Fin 16) (t : Fin 131073) :
    val_main_v69 (F := Ideal) x0 x1 x3 x4 (ix5 b n g 0 t) = Spec.score x0 x1 x3 x4 b (rowOf n g) t.val := by
  rw [val_main_v69_apply, mask_apply, select_one, v60_apply]

theorem v70_apply (b : Fin 16) (n : Fin 2) (g : Fin 16) :
    val_main_v70 (F := Ideal) x0 x1 x3 x4 (ix4 b n g 0)
      = Softmax.top (Spec.score x0 x1 x3 x4 b (rowOf n g)) 131073 := by
  have hr : S16x2x16x1x131073.Reduces [4] S16x2x16x1 := by decide
  unfold val_main_v70 val_main_cst_13
  refine (hostMax_single _ _ _ hr _).trans ?_
  rw [Softmax.top_fin]
  refine Finset.sup_congr rfl fun t _ => ?_
  have e : hr.lift (ix4 b n g 0) t = ix5 b n g 0 t := funext fun a => Fin.ext (by
    rw [Shape.Reduces.lift_val]; fin_cases a <;> rfl)
  show val_main_v69 (F := Ideal) x0 x1 x3 x4 (hr.lift (ix4 b n g 0) t) = _
  rw [e]
  exact v69_apply x0 x1 x3 x4 b n g t

theorem v74_apply (b : Fin 16) (n : Fin 2) (g : Fin 16) (t : Fin 131073) :
    val_main_v74 (F := Ideal) x0 x1 x3 x4 (ix5 b n g 0 t)
      = Ideal.exp (Spec.score x0 x1 x3 x4 b (rowOf n g) t.val
          - Softmax.top (Spec.score x0 x1 x3 x4 b (rowOf n g)) 131073) := by
  rw [val_main_v74_apply, val_main_v73_apply, v69_apply, val_main_v72_apply, val_main_v71_apply]
  have e : idx_main_v71 (idx_main_v72 (ix5 b n g 0 t)) = ix4 b n g 0 := funext fun a => by fin_cases a <;> rfl
  rw [e, v70_apply]
  rfl

theorem v79_apply (b : Fin 16) (n : Fin 2) (g : Fin 16) (d : Fin 128) :
    val_main_v79 (F := Ideal) x0 x1 x3 x4 (ix5 b n g 0 d)
      = Softmax.mass (Spec.score x0 x1 x3 x4 b (rowOf n g)) 131073 := by
  rw [val_main_v79_apply, val_main_v76_apply, val_main_v75_apply]
  show Ideal.ofBits .f32 0x00000000#32 + _ = _
  rw [Ideal.ofBits_zero_f32, zero_add, Softmax.mass_fin]
  refine Finset.sum_congr rfl fun t _ => ?_
  have e : idx_main_v75 (idx_main_v76 (idx_main_v79 (ix5 b n g 0 d))) t = ix5 b n g 0 t :=
    funext fun a => by fin_cases a <;> rfl
  rw [e, v74_apply]

theorem v78_apply (b : Fin 16) (n : Fin 2) (g : Fin 16) (d : Fin 128) :
    val_main_v78 (F := Ideal) x0 x1 x2 x3 x4 x5 x6 (ix5 b n g 0 d)
      = Softmax.wsum (Spec.score x0 x1 x3 x4 b (rowOf n g)) (Spec.token x2 x5 x6 b n d) 131073 := by
  rw [val_main_v78_apply, Softmax.wsum_fin]
  refine Finset.sum_congr rfl fun t _ => ?_
  have el : lidx_main_v78 (ix5 b n g 0 d) t = ix5 b n g 0 t := funext fun a => by fin_cases a <;> rfl
  have er : ridx_main_v78 (ix5 b n g 0 d) t = ix4 b t n d := funext fun a => by fin_cases a <;> rfl
  rw [el, er, v74_apply, val_main_v77_apply, v56_eq, v43_apply]
  rfl

/-- RESULT 1: the attention output. -/
theorem v83_apply (b : Fin 16) (r : Fin 32) (d : Fin 128) :
    val_main_v83 (F := Ideal) x0 x1 x2 x3 x4 x5 x6 (ix3 b r d) = Spec.out x0 x1 x2 x3 x4 x5 x6 b r d := by
  rw [val_main_v83_apply, val_main_v82_apply, val_main_v81_apply, val_main_v80_apply]
  have e : idx_main_v81 (idx_main_v82 (ix3 b r d))
      = ix5 b (Spec.headOf r) (⟨r.val % 16, by omega⟩ : Fin 16) (0 : Fin 1) d := by
    have hb := b.isLt; have hr := r.isLt; have hd := d.isLt
    funext a
    apply Fin.ext
    match a with
    | ⟨0, _⟩ => show ((b.val * 32 + r.val) * 128 + d.val) / 4096 = b.val; omega
    | ⟨1, _⟩ => show ((b.val * 32 + r.val) * 128 + d.val) / 2048 % 2 = r.val / 16; omega
    | ⟨2, _⟩ => show ((b.val * 32 + r.val) * 128 + d.val) / 128 % 16 = r.val % 16; omega
    | ⟨3, _⟩ => rfl
    | ⟨4, _⟩ => show ((b.val * 32 + r.val) * 128 + d.val) % 128 = d.val; omega
  have hrow : rowOf (Spec.headOf r) (⟨r.val % 16, by omega⟩ : Fin 16) = r :=
    Fin.ext (by show 16 * (r.val / 16) + r.val % 16 = r.val; omega)
  rw [e, v78_apply, v79_apply, hrow]
  rfl

end

end Cert.ReferenceIdeal.RefValue

end

end
-- ==== Proof.Blocks.lean ====
/-
The blocks a step of the kernel reads, in terms of the arguments: step `t` of the grid is step `t mod 32` of batch
`t / 32`, and holds the batch's queries, its new rows and 4096 of its cached tokens.
-/
module

public import proofs.«01_k».proof.Proof.Spec
public import proofs.«01_k».proof.Proof.Gen.KernelIdeal.Value
public import Idealize.ShloMosaic.Lib.KernelVsHost
public import Idealize.ShloMosaic.Lib.Tactic

@[expose] public section

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (arrRef)

variable {F : FTy → Type} [FloatOps F]
variable (m : (ℓ : Loc nD τ sig) → Buf (Elt F) ℓ)

/-! ## The arrays the host prepares -/

theorem v0_eq (c : Dev nD) : V m c main_v0
    = shapeCast S16x32x128 (m ((c : Thread nD τ).loc main_arg0)) shapeCasts_S16x1x4096_S16x32x128 := by
  unfold V
  after_results
  rfl

theorem v1_eq (c : Dev nD) : V m c main_v1
    = shapeCast S16x2x128 (m ((c : Thread nD τ).loc main_arg1)) shapeCasts_S16x1x2x128_S16x2x128 := by
  unfold V
  after_results
  rfl

theorem v2_eq (c : Dev nD) : V m c main_v2
    = shapeCast S16x2x128 (m ((c : Thread nD τ).loc main_arg2)) shapeCasts_S16x1x2x128_S16x2x128 := by
  unfold V
  after_results
  rfl

theorem v3_eq (c : Dev nD) : V m c main_v3 = transpose S16x2x131072x128 [0, 2, 1, 3]
    (m ((c : Thread nD τ).loc main_arg3)) transposes_S16x131072x2x128_S16x2x131072x128_0_2_1_3 := by
  unfold V
  after_results

theorem v4_eq (c : Dev nD) : V m c main_v4 = transpose S16x2x131072x128 [0, 2, 1, 3]
    (m ((c : Thread nD τ).loc main_arg5)) transposes_S16x131072x2x128_S16x2x131072x128_0_2_1_3 := by
  unfold V
  after_results

theorem v5_eq (c : Dev nD) : V m c main_v5 = transpose S16x2x131072 [0, 2, 1]
    (m ((c : Thread nD τ).loc main_arg4)) transposes_S16x131072x2_S16x2x131072_0_2_1 := by
  unfold V
  after_results

theorem v6_eq (c : Dev nD) : V m c main_v6 = transpose S16x2x131072 [0, 2, 1]
    (m ((c : Thread nD τ).loc main_arg6)) transposes_S16x131072x2_S16x2x131072_0_2_1 := by
  unfold V
  after_results

/-! ## Where a step's blocks lie -/

theorem index_batch : ∀ t : Fin grid0.N,
    win0_0.index t = ![t.val / 32, 0, 0] ∧ win0_1.index t = ![t.val / 32, 0, 0] ∧ win0_2.index t = ![t.val / 32, 0, 0] := by
  decide +kernel

theorem index_cache : ∀ t : Fin grid0.N,
    win0_3.index t = ![t.val / 32, 0, t.val % 32, 0] ∧ win0_4.index t = ![t.val / 32, 0, t.val % 32]
      ∧ win0_5.index t = ![t.val / 32, 0, t.val % 32, 0] ∧ win0_6.index t = ![t.val / 32, 0, t.val % 32] := by
  decide +kernel

/-- The batch of step `t`. -/
abbrev batch (t : Fin cfg0.N) : Fin 16 := ⟨t.val / 32, by have := t.isLt; have : cfg0.N = 512 := N_0; omega⟩

/-- The cached token that stands at place `u` of step `t`. -/
abbrev tok (t : Fin cfg0.N) (u : Fin 4096) : Fin 131072 := ⟨4096 * (t.val % 32) + u.val, by omega⟩

/-- The queries of step `t`. -/
theorem read0 (c : Dev nD) (t : Fin cfg0.N) (r : Fin 32) (d : Fin 128) :
    (iblk m c 0 t : Vec F S1x32x128 .bf16) (ix3 0 r d)
      = (m ((c : Thread nD τ).loc main_arg0) : Vec F S16x1x4096 .bf16) (ix3 (batch t) 0 ⟨128 * r.val + d.val, by omega⟩) := by
  have hi := (index_batch t).1
  unfold iblk
  rw [View.read_apply]
  show V m c main_v0 _ = _
  rw [v0_eq]
  refine shapeCast_apply _ _ _ _ ?_
  refine Eq.trans (b := (S16x32x128.rowMajor (ix3 (batch t) r d)).val) ?_ (congrArg (fun i => (S16x32x128.rowMajor i).val) (funext fun a => Fin.ext ?_))
  · show (S16x1x4096.rowMajor (ix3 (batch t) 0 ⟨128 * r.val + d.val, _⟩)).val = _
    rw [Shape.rowMajor_val_three, Shape.rowMajor_val_three]
    show (t.val / 32 * 1 + 0) * 4096 + (128 * r.val + d.val) = (t.val / 32 * 32 + r.val) * 128 + d.val
    omega
  · match a with
    | ⟨0, _⟩ => show t.val / 32 = win0_0.index t 0 * 1 + 1 * 0; rw [hi]; show _ = t.val / 32 * 1 + 1 * 0; omega
    | ⟨1, _⟩ => show r.val = win0_0.index t 1 * 32 + 1 * r.val; rw [hi]; show _ = 0 * 32 + 1 * r.val; omega
    | ⟨2, _⟩ => show d.val = win0_0.index t 2 * 128 + 1 * d.val; rw [hi]; show _ = 0 * 128 + 1 * d.val; omega

/-- The new key of step `t`. -/
theorem read1 (c : Dev nD) (t : Fin cfg0.N) (h : Fin 2) (d : Fin 128) :
    (iblk m c 1 t : Vec F S1x2x128 .bf16) (ix3 0 h d)
      = (m ((c : Thread nD τ).loc main_arg1) : Vec F S16x1x2x128 .bf16) (ix4 (batch t) 0 h d) := by
  have hi := (index_batch t).2.1
  unfold iblk
  rw [View.read_apply]
  show V m c main_v1 _ = _
  rw [v1_eq]
  refine shapeCast_apply _ _ _ _ ?_
  refine Eq.trans (b := (S16x2x128.rowMajor (ix3 (batch t) h d)).val) ?_ (congrArg (fun i => (S16x2x128.rowMajor i).val) (funext fun a => Fin.ext ?_))
  · show (S16x1x2x128.rowMajor (ix4 (batch t) 0 h d)).val = _
    rw [Shape.rowMajor_val_three, Shape.rowMajor_val_four]
    show ((t.val / 32 * 1 + 0) * 2 + h.val) * 128 + d.val = (t.val / 32 * 2 + h.val) * 128 + d.val
    omega
  · match a with
    | ⟨0, _⟩ => show t.val / 32 = win0_1.index t 0 * 1 + 1 * 0; rw [hi]; show _ = t.val / 32 * 1 + 1 * 0; omega
    | ⟨1, _⟩ => show h.val = win0_1.index t 1 * 2 + 1 * h.val; rw [hi]; show _ = 0 * 2 + 1 * h.val; omega
    | ⟨2, _⟩ => show d.val = win0_1.index t 2 * 128 + 1 * d.val; rw [hi]; show _ = 0 * 128 + 1 * d.val; omega

/-- The new value of step `t`. -/
theorem read2 (c : Dev nD) (t : Fin cfg0.N) (h : Fin 2) (d : Fin 128) :
    (iblk m c 2 t : Vec F S1x2x128 .bf16) (ix3 0 h d)
      = (m ((c : Thread nD τ).loc main_arg2) : Vec F S16x1x2x128 .bf16) (ix4 (batch t) 0 h d) := by
  have hi := (index_batch t).2.2
  unfold iblk
  rw [View.read_apply]
  show V m c main_v2 _ = _
  rw [v2_eq]
  refine shapeCast_apply _ _ _ _ ?_
  refine Eq.trans (b := (S16x2x128.rowMajor (ix3 (batch t) h d)).val) ?_ (congrArg (fun i => (S16x2x128.rowMajor i).val) (funext fun a => Fin.ext ?_))
  · show (S16x1x2x128.rowMajor (ix4 (batch t) 0 h d)).val = _
    rw [Shape.rowMajor_val_three, Shape.rowMajor_val_four]
    show ((t.val / 32 * 1 + 0) * 2 + h.val) * 128 + d.val = (t.val / 32 * 2 + h.val) * 128 + d.val
    omega
  · match a with
    | ⟨0, _⟩ => show t.val / 32 = win0_2.index t 0 * 1 + 1 * 0; rw [hi]; show _ = t.val / 32 * 1 + 1 * 0; omega
    | ⟨1, _⟩ => show h.val = win0_2.index t 1 * 2 + 1 * h.val; rw [hi]; show _ = 0 * 2 + 1 * h.val; omega
    | ⟨2, _⟩ => show d.val = win0_2.index t 2 * 128 + 1 * d.val; rw [hi]; show _ = 0 * 128 + 1 * d.val; omega

/-- The key codes of step `t`. -/
theorem read3 (c : Dev nD) (t : Fin cfg0.N) (h : Fin 2) (u : Fin 4096) (d : Fin 128) :
    (iblk m c 3 t : Vec F S1x2x4096x128 .i8) (ix4 0 h u d)
      = (m ((c : Thread nD τ).loc main_arg3) : Vec F S16x131072x2x128 .i8) (ix4 (batch t) (tok t u) h d) := by
  have hi := (index_cache t).1
  unfold iblk
  rw [View.read_apply]
  show V m c main_v3 _ = _
  rw [v3_eq]
  refine transpose_apply _ _ _ _ _ fun a => ?_
  match a with
  | ⟨0, _⟩ => show t.val / 32 = win0_3.index t 0 * 1 + 1 * 0; rw [hi]; show _ = t.val / 32 * 1 + 1 * 0; omega
  | ⟨1, _⟩ => show h.val = win0_3.index t 1 * 2 + 1 * h.val; rw [hi]; show _ = 0 * 2 + 1 * h.val; omega
  | ⟨2, _⟩ =>
    show 4096 * (t.val % 32) + u.val = win0_3.index t 2 * 4096 + 1 * u.val
    rw [hi]; show _ = t.val % 32 * 4096 + 1 * u.val; omega
  | ⟨3, _⟩ => show d.val = win0_3.index t 3 * 128 + 1 * d.val; rw [hi]; show _ = 0 * 128 + 1 * d.val; omega

/-- The value codes of step `t`. -/
theorem read5 (c : Dev nD) (t : Fin cfg0.N) (h : Fin 2) (u : Fin 4096) (d : Fin 128) :
    (iblk m c 5 t : Vec F S1x2x4096x128 .i8) (ix4 0 h u d)
      = (m ((c : Thread nD τ).loc main_arg5) : Vec F S16x131072x2x128 .i8) (ix4 (batch t) (tok t u) h d) := by
  have hi := (index_cache t).2.2.1
  unfold iblk
  rw [View.read_apply]
  show V m c main_v4 _ = _
  rw [v4_eq]
  refine transpose_apply _ _ _ _ _ fun a => ?_
  match a with
  | ⟨0, _⟩ => show t.val / 32 = win0_5.index t 0 * 1 + 1 * 0; rw [hi]; show _ = t.val / 32 * 1 + 1 * 0; omega
  | ⟨1, _⟩ => show h.val = win0_5.index t 1 * 2 + 1 * h.val; rw [hi]; show _ = 0 * 2 + 1 * h.val; omega
  | ⟨2, _⟩ =>
    show 4096 * (t.val % 32) + u.val = win0_5.index t 2 * 4096 + 1 * u.val
    rw [hi]; show _ = t.val % 32 * 4096 + 1 * u.val; omega
  | ⟨3, _⟩ => show d.val = win0_5.index t 3 * 128 + 1 * d.val; rw [hi]; show _ = 0 * 128 + 1 * d.val; omega

/-- The key scales of step `t`. -/
theorem read4 (c : Dev nD) (t : Fin cfg0.N) (h : Fin 2) (u : Fin 4096) :
    (iblk m c 4 t : Vec F S1x2x4096 .f32) (ix3 0 h u)
      = (m ((c : Thread nD τ).loc main_arg4) : Vec F S16x131072x2 .f32) (ix3 (batch t) (tok t u) h) := by
  have hi := (index_cache t).2.1
  unfold iblk
  rw [View.read_apply]
  show V m c main_v5 _ = _
  rw [v5_eq]
  refine transpose_apply _ _ _ _ _ fun a => ?_
  match a with
  | ⟨0, _⟩ => show t.val / 32 = win0_4.index t 0 * 1 + 1 * 0; rw [hi]; show _ = t.val / 32 * 1 + 1 * 0; omega
  | ⟨1, _⟩ => show h.val = win0_4.index t 1 * 2 + 1 * h.val; rw [hi]; show _ = 0 * 2 + 1 * h.val; omega
  | ⟨2, _⟩ =>
    show 4096 * (t.val % 32) + u.val = win0_4.index t 2 * 4096 + 1 * u.val
    rw [hi]; show _ = t.val % 32 * 4096 + 1 * u.val; omega

/-- The value scales of step `t`. -/
theorem read6 (c : Dev nD) (t : Fin cfg0.N) (h : Fin 2) (u : Fin 4096) :
    (iblk m c 6 t : Vec F S1x2x4096 .f32) (ix3 0 h u)
      = (m ((c : Thread nD τ).loc main_arg6) : Vec F S16x131072x2 .f32) (ix3 (batch t) (tok t u) h) := by
  have hi := (index_cache t).2.2.2
  unfold iblk
  rw [View.read_apply]
  show V m c main_v6 _ = _
  rw [v6_eq]
  refine transpose_apply _ _ _ _ _ fun a => ?_
  match a with
  | ⟨0, _⟩ => show t.val / 32 = win0_6.index t 0 * 1 + 1 * 0; rw [hi]; show _ = t.val / 32 * 1 + 1 * 0; omega
  | ⟨1, _⟩ => show h.val = win0_6.index t 1 * 2 + 1 * h.val; rw [hi]; show _ = 0 * 2 + 1 * h.val; omega
  | ⟨2, _⟩ =>
    show 4096 * (t.val % 32) + u.val = win0_6.index t 2 * 4096 + 1 * u.val
    rw [hi]; show _ = t.val % 32 * 4096 + 1 * u.val; omega

end Cert.KernelIdeal.Blocks

end

end
-- ==== Proof.Body.lean ====
/-
The body of the kernel's loop over the cache, read back as values: a step of the grid folds its eight chunks of 512
tokens, one after the other, into the running maximum, the running sum and the running weighted sum.
-/
module

public import proofs.«01_k».proof.Proof.Gen.KernelIdeal.Frame
public import Idealize.ShloMosaic.Lib.Pipeline.ValueKit
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## One chunk -/

/-- What a step carries: the running maximum and sum of each query row, and the running weighted sum of the values. -/
abbrev State (F : FTy → Type) := Vec F S32x1 .f32 × Vec F S32x1 .f32 × Vec F S32x256 .f32

theorem inb_codes (k : Fin 8) (h : Fin 2) (a : Fin 4) :
    (![0, h.val, 512 * k.val, 0] : Fin 4 → ℕ) a + S1x1x512x128.size a ≤ S1x2x4096x128.size a := by
  have hk := k.isLt; have hh := h.isLt
  fin_cases a
  · exact le_refl 1
  · show h.val + 1 ≤ 2; omega
  · show 512 * k.val + 512 ≤ 4096; omega
  · exact le_refl 128

theorem inb_scales (k : Fin 8) (h : Fin 2) (a : Fin 3) :
    (![0, h.val, 512 * k.val] : Fin 3 → ℕ) a + S1x1x512.size a ≤ S1x2x4096.size a := by
  have hk := k.isLt; have hh := h.isLt
  fin_cases a
  · exact le_refl 1
  · show h.val + 1 ≤ 2; omega
  · show 512 * k.val + 512 ≤ 4096; omega

/-- Chunk `k` of head `h` of a block of codes. -/
def codesOf (x : Vec F S1x2x4096x128 .i8) (k : Fin 8) (h : Fin 2) : Vec F S1x1x512x128 .i8 :=
  View.ld x (Rect.unit ![0, h.val, 512 * k.val, 0] S1x1x512x128.size (inb_codes k h))

/-- Chunk `k` of head `h` of a block of scales. -/
def scalesOf (x : Vec F S1x2x4096 .f32) (k : Fin 8) (h : Fin 2) : Vec F S1x1x512 .f32 :=
  View.ld x (Rect.unit ![0, h.val, 512 * k.val] S1x1x512.size (inb_scales k h))

/-- Chunk `k` dequantised, the two heads side by side. -/
def rows (codes : Vec F S1x2x4096x128 .i8) (scales : Vec F S1x2x4096 .f32) (k : Fin 8) : FVec F S512x256 .bf16 :=
  k0_pay36 (scalesOf scales k 0) (codesOf codes k 0) (scalesOf scales k 1) (codesOf codes k 1)

/-- The scores of a chunk's keys. -/
def scores (q : FVec F S32x256 .bf16) (keys : FVec F S512x256 .bf16) : FVec F S32x512 .f32 := k0_pay37 q keys

/-- One chunk folded into the state. -/
def step (q : FVec F S32x256 .bf16) (x3 : Vec F S1x2x4096x128 .i8) (x4 : Vec F S1x2x4096 .f32)
    (x5 : Vec F S1x2x4096x128 .i8) (x6 : Vec F S1x2x4096 .f32) (k : Fin 8) (st : State F) : State F :=
  (k0_pay74 (scores q (rows x3 x4 k)) st.1, k0_pay72 (scores q (rows x3 x4 k)) st.1 st.2.1,
    k0_pay73 (rows x5 x6 k) (scores q (rows x3 x4 k)) st.1 st.2.2)

/-- The eight chunks of a block folded into the state, first to last. -/
def block (q : FVec F S32x256 .bf16) (x3 : Vec F S1x2x4096x128 .i8) (x4 : Vec F S1x2x4096 .f32)
    (x5 : Vec F S1x2x4096x128 .i8) (x6 : Vec F S1x2x4096 .f32) (st : State F) : State F :=
  step q x3 x4 x5 x6 7 (step q x3 x4 x5 x6 6 (step q x3 x4 x5 x6 5 (step q x3 x4 x5 x6 4
    (step q x3 x4 x5 x6 3 (step q x3 x4 x5 x6 2 (step q x3 x4 x5 x6 1 (step q x3 x4 x5 x6 0 st)))))))

/-- The state before the first chunk of a batch. -/
def init : State F := (k0_pay18, k0_pay19, k0_pay20)

/-- The last result of a batch: the new token folded into the state, and the rows divided by their sums. -/
def last (x0 : Vec F S1x32x128 .bf16) (x1 x2 : Vec F S1x2x128 .bf16) (st : State F) : FVec F S1x32x128 .bf16 :=
  k0_pay1 k0_pay21 (k0_pay13 (k0_pay6 x2) (k0_pay7 x2)) (k0_pay16 (k0_pay22 x0) (k0_pay3 x1) (k0_pay4 x1) st.1)
    (k0_pay17 (k0_pay22 x0) (k0_pay3 x1) (k0_pay4 x1) st.1) st.2.1 st.2.2

/-! ## The three kinds of step -/

section
variable (c : Dev nD) (i : grid0.Coords)
  (a2 : Memref sig .tc .vmem S1x32x128 .bf16) (h2 : a2.IsWhole)
  (a3 : Memref sig .tc .vmem S1x2x128 .bf16) (h3 : a3.IsWhole)
  (a4 : Memref sig .tc .vmem S1x2x128 .bf16) (h4 : a4.IsWhole)
  (a5 : Memref sig .tc .vmem S1x2x4096x128 .i8) (h5 : a5.IsWhole)
  (a6 : Memref sig .tc .vmem S1x2x4096 .f32) (h6 : a6.IsWhole)
  (a7 : Memref sig .tc .vmem S1x2x4096x128 .i8) (h7 : a7.IsWhole)
  (a8 : Memref sig .tc .vmem S1x2x4096 .f32) (h8 : a8.IsWhole)
  (a9 : Memref sig .tc .vmem S1x32x128 .bf16) (h9 : a9.IsWhole)
  (a10 : Memref sig .tc .vmem S1x2x128 .i8) (h10 : a10.IsWhole)
  (a11 : Memref sig .tc .vmem S1x2x1 .f32) (h11 : a11.IsWhole)
  (a12 : Memref sig .tc .vmem S1x2x128 .i8) (h12 : a12.IsWhole)
  (a13 : Memref sig .tc .vmem S1x2x1 .f32) (h13 : a13.IsWhole)
  (a14 : Memref sig .tc .vmem S32x1 .f32) (h14 : a14.IsWhole)
  (a15 : Memref sig .tc .vmem S32x1 .f32) (h15 : a15.IsWhole)
  (a16 : Memref sig .tc .vmem S32x256 .f32) (h16 : a16.IsWhole)
  (x0 : Vec F S1x32x128 .bf16)  (x1 : Vec F S1x2x128 .bf16)  (x2 : Vec F S1x2x128 .bf16)  (x3 : Vec F S1x2x4096x128 .i8)  (x4 : Vec F S1x2x4096 .f32)  (x5 : Vec F S1x2x4096x128 .i8)  (x6 : Vec F S1x2x4096 .f32)
  (xs0 xs1 : Vec F S32x1 .f32) (xs2 : Vec F S32x256 .f32)

/-- The first step of a batch leaves the state of its block folded into the empty one. -/
theorem state_A (hc0 : cond0_0 i) (hc1 : ¬cond0_1 i) :
    sout0_A_0 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 = (block (k0_pay22 x0) x3 x4 x5 x6 init).1 ∧
    sout0_A_1 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 = (block (k0_pay22 x0) x3 x4 x5 x6 init).2.1 ∧
    sout0_A_2 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 = (block (k0_pay22 x0) x3 x4 x5 x6 init).2.2 := by
  refine ⟨(View.read_writes_eq_canon _ _ _ (scover0_A_0 c i a2 h2 a3 h3 a4 h4 a5 h5 a6 h6 a7 h7 a8 h8 a9 h9 a10 h10 a11 h11 a12 h12 a13 h13 a14 h14 a15 h15 a16 h16 hc0 hc1 x0 x1 x2 x3 x4 x5 x6)).trans ?_,
    (View.read_writes_eq_canon _ _ _ (scover0_A_1 c i a2 h2 a3 h3 a4 h4 a5 h5 a6 h6 a7 h7 a8 h8 a9 h9 a10 h10 a11 h11 a12 h12 a13 h13 a14 h14 a15 h15 a16 h16 hc0 hc1 x0 x1 x2 x3 x4 x5 x6)).trans ?_,
    (View.read_writes_eq_canon _ _ _ (scover0_A_2 c i a2 h2 a3 h3 a4 h4 a5 h5 a6 h6 a7 h7 a8 h8 a9 h9 a10 h10 a11 h11 a12 h12 a13 h13 a14 h14 a15 h15 a16 h16 hc0 hc1 x0 x1 x2 x3 x4 x5 x6)).trans ?_⟩ <;>
    (unfold kernelRun0_A; dsimp only; sl_unfold_words
     rw [View.canon_cons_unit_lit (h := by decide)]
     simp (disch := decide) only [View.readCov_cons_unit_lit', View.readAt_eq_ld, h2.read_unread, h3.read_unread,
       h4.read_unread, h5.read_unread, h6.read_unread, h7.read_unread, h8.read_unread, h14.read_unread,
       h15.read_unread, h16.read_unread, View.ld_unit_lit']
     rfl)

/-- A middle step folds its block into the state it finds. -/
theorem state_B (hc0 : ¬cond0_0 i) (hc1 : ¬cond0_1 i) :
    sout0_B_0 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).1 ∧
    sout0_B_1 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).2.1 ∧
    sout0_B_2 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).2.2 := by
  refine ⟨(View.read_writes_eq_canon _ _ _ (scover0_B_0 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (scover0_B_1 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (scover0_B_2 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_⟩ <;>
    (unfold kernelRun0_B; dsimp only; sl_unfold_words
     rw [View.canon_cons_unit_lit (h := by decide)]
     simp (disch := decide) only [View.readCov_cons_unit_lit', View.readAt_eq_ld, h2.read_unread, h3.read_unread,
       h4.read_unread, h5.read_unread, h6.read_unread, h7.read_unread, h8.read_unread, h14.read_unread,
       h15.read_unread, h16.read_unread, View.ld_unit_lit']
     rfl)

/-- The last step of a batch folds its block into the state it finds. -/
theorem state_C (hc0 : ¬cond0_0 i) (hc1 : cond0_1 i) :
    sout0_C_0 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).1 ∧
    sout0_C_1 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).2.1 ∧
    sout0_C_2 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = (block (k0_pay22 x0) x3 x4 x5 x6 (xs0, xs1, xs2)).2.2 := by
  refine ⟨(View.read_writes_eq_canon _ _ _ (scover0_C_0 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (scover0_C_1 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (scover0_C_2 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_⟩ <;>
    (unfold kernelRun0_C; dsimp only; sl_unfold_words
     rw [View.canon_cons_unit_lit (h := by decide)]
     simp (disch := decide) only [View.readCov_cons_unit_lit', View.readAt_eq_ld, h2.read_unread, h3.read_unread,
       h4.read_unread, h5.read_unread, h6.read_unread, h7.read_unread, h8.read_unread, h14.read_unread,
       h15.read_unread, h16.read_unread, View.ld_unit_lit']
     rfl)

/-- The last step also writes the results: the two new rows quantised, and the weighted sum over the cache with the new
token folded in, divided by the running sum. -/
theorem results_C (hc0 : ¬cond0_0 i) (hc1 : cond0_1 i) :
    out0_C_7 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = last x0 x1 x2 (block (k0_pay22 x0) x3 x4 x5 x6 (xs0, xs1, xs2)) ∧
    out0_C_8 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = k0_pay9 (k0_pay8 x1) ∧
    out0_C_9 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = k0_pay11 (k0_pay3 x1) ∧
    out0_C_10 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = k0_pay10 (k0_pay7 x2) ∧
    out0_C_11 (F := F) c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2 = k0_pay12 (k0_pay6 x2) := by
  refine ⟨(View.read_writes_eq_canon _ _ _ (cover0_C_7 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (cover0_C_8 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (cover0_C_9 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (cover0_C_10 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_,
    (View.read_writes_eq_canon _ _ _ (cover0_C_11 c i a2 h2 a3 h3 a4 h4 a5 h5 a6 h6 a7 h7 a8 h8 a9 h9 a10 h10 a11 h11 a12 h12 a13 h13 a14 h14 a15 h15 a16 h16 hc0 hc1 x0 x1 x2 x3 x4 x5 x6 xs0 xs1 xs2)).trans ?_⟩ <;>
    (unfold kernelRun0_C; dsimp only; sl_unfold_words
     rw [View.canon_cons_unit_lit (h := by decide)]
     simp (disch := decide) only [View.readCov_cons_unit_lit', View.readAt_eq_ld, h2.read_unread, h3.read_unread,
       h4.read_unread, h5.read_unread, h6.read_unread, h7.read_unread, h8.read_unread, h14.read_unread,
       h15.read_unread, h16.read_unread, View.ld_unit_lit']
     try rfl)

end

end Cert.KernelIdeal.Body

end

end
-- ==== Proof.Chunk.lean ====
/-
The operations of one step of the kernel read at an index, over the extended reals: the block-diagonal queries, the
dequantised rows, the scores, the three updates, the quantiser and the last division.
-/
module

public import proofs.«01_k».proof.Proof.Spec
public import proofs.«01_k».proof.Proof.Body
public import Idealize.ShloMosaic.Lib.KernelVsHost
public import Idealize.ShloMosaic.Lib.MatmulPlain

@[expose] public section

set_option maxRecDepth 16384

noncomputable section

namespace Cert.KernelIdeal.Chunk

open Cert.KernelIdeal Cert.KernelIdeal.Gen Cert.KernelIdeal.Body
open Idealize.ShloMosaic hiding ix1 ix2 ix3 ix4
open Idealize.ShloMosaic.TcCoe Idealize.ShloMosaic.ValueIdx

/-- The column of coordinate `d` of head `h`: the two heads stand side by side. -/
abbrev col (h : Fin 2) (d : Fin 128) : Fin 256 := ⟨128 * h.val + d.val, by omega⟩

/-- A sum over the columns is a sum over the heads and their coordinates. -/
theorem sum_cols (f : Fin 256 → EReal) : ∑ c, f c = ∑ h : Fin 2, ∑ d : Fin 128, f (col h d) := by
  rw [← Fintype.sum_prod_type' (f := fun h d => f (col h d))]
  refine (Equiv.sum_comp (finProdFinEquiv (m := 2) (n := 128)) f).symm.trans ?_
  refine Finset.sum_congr rfl fun p _ => congrArg f (Fin.ext ?_)
  show p.2.val + 128 * p.1.val = _
  exact Nat.add_comm _ _

/-! ## Reading the layout operations -/

/-- A column vector of 32 rows is the vector of its rows. -/
theorem cast_col {α : Type} {n : ℕ} (x : (⟨1, ![n]⟩ : Shape).Idx → α)
    (h : (⟨1, ![n]⟩ : Shape).ShapeCasts ⟨2, ![n, 1]⟩) (r : Fin n) : shapeCast ⟨2, ![n, 1]⟩ x h (ix2 r 0) = x (ix1 r) :=
  shapeCast_apply _ _ _ _ (by
    rw [Shape.rowMajor_val_one, Shape.rowMajor_val_two]
    show r.val = r.val * 1 + 0; omega)

/-- A column vector spread over the columns. -/
theorem spread_col {α : Type} {n k : ℕ} (hn : n ≠ 1) (x : (⟨2, ![n, 1]⟩ : Shape).Idx → α)
    (h : (⟨2, ![n, 1]⟩ : Shape).Broadcasts ⟨2, ![n, k]⟩) (r : Fin n) (c : Fin k) :
    broadcastTo ⟨2, ![n, k]⟩ x h (ix2 r c) = x (ix2 r 0) :=
  broadcastTo_apply _ _ _ _ (fun a => by
    fin_cases a
    · show r.val = if n = 1 then 0 else r.val
      exact (if_neg hn).symm
    · show 0 = if 1 = 1 then 0 else _
      exact (if_pos rfl).symm)

/-- A row vector spread over the rows. -/
theorem spread_row {α : Type} {n k : ℕ} (hk : k ≠ 1) (x : (⟨2, ![1, k]⟩ : Shape).Idx → α)
    (h : (⟨2, ![1, k]⟩ : Shape).Broadcasts ⟨2, ![n, k]⟩) (r : Fin n) (c : Fin k) :
    broadcastTo ⟨2, ![n, k]⟩ x h (ix2 r c) = x (ix2 0 c) :=
  broadcastTo_apply _ _ _ _ (fun a => by
    fin_cases a
    · show 0 = if 1 = 1 then 0 else _
      exact (if_pos rfl).symm
    · show c.val = if k = 1 then 0 else c.val
      exact (if_neg hk).symm)

/-- Two blocks of 128 columns side by side, read in the block of head `h`. -/
theorem side_by_side {α : Type} {n : ℕ} (x y : (⟨2, ![n, 128]⟩ : Shape).Idx → α)
    (H : Shape.Concatenates [⟨2, ![n, 128]⟩, ⟨2, ![n, 128]⟩] ⟨2, ![n, 256]⟩ (1 : Fin 2)) (r : Fin n) (h : Fin 2) (d : Fin 128) :
    concatenate ⟨2, ![n, 256]⟩ (1 : Fin 2) [⟨⟨2, ![n, 128]⟩, x⟩, ⟨⟨2, ![n, 128]⟩, y⟩] H (ix2 r (col h d))
      = if h = 0 then x (ix2 r d) else y (ix2 r d) := by
  fin_cases h
  · exact concatenate_pair_apply_left (t := ⟨2, ![n, 256]⟩) (1 : Fin 2) x y H _ rfl (ix2 r d) (fun a => by
      fin_cases a
      · rfl
      · show d.val = 128 * 0 + d.val; omega)
  · exact concatenate_pair_apply_right (t := ⟨2, ![n, 256]⟩) (1 : Fin 2) x y H _ rfl rfl (ix2 r d)
      (fun a ha => by fin_cases a <;> first | rfl | exact absurd rfl ha)
      (by show d.val + 128 = 128 * 1 + d.val; omega)

/-- The maximum along the columns is the least upper bound of the row. -/
theorem max_cols {n k : ℕ} (x : FVec Ideal ⟨2, ![n, k]⟩ .f32) (h : (⟨2, ![n, k]⟩ : Shape).Reduces [1] ⟨1, ![n]⟩)
    (hφ hacc) (r : Fin n) :
    multiReduction .maximumf [1] ⟨1, ![n]⟩ x 0xFF800000#32 h hφ hacc (ix1 r)
      = (Finset.univ : Finset (Fin k)).sup fun c => x (ix2 r c) := by
  refine (Ideal.multiReduction_maximumf_single x _ h hφ hacc (ix1 r)).trans ?_
  show Finset.fold max (Ideal.ofBits .f32 0xFF800000#32) _ _ = _
  rw [Spec.ofBits_neg_inf]
  refine Finset.sup_congr rfl fun c _ => congrArg x (funext fun a => Fin.ext ?_)
  rw [Shape.Reduces.lift_val]
  fin_cases a <;> rfl

/-- The sum along the columns is the sum of the row. -/
theorem add_cols {n k : ℕ} (x : FVec Ideal ⟨2, ![n, k]⟩ .f32) (h : (⟨2, ![n, k]⟩ : Shape).Reduces [1] ⟨1, ![n]⟩)
    (hφ hacc) (r : Fin n) :
    multiReduction .add [1] ⟨1, ![n]⟩ x 0x00000000#32 h hφ hacc (ix1 r) = ∑ c : Fin k, x (ix2 r c) := by
  refine (Ideal.multiReduction_add_single x _ h hφ hacc (ix1 r)).trans ?_
  refine Finset.sum_congr rfl fun c _ => congrArg x (funext fun a => Fin.ext ?_)
  rw [Shape.Reduces.lift_val]
  fin_cases a <;> rfl

/-! ## The block-diagonal queries -/

/-- The row index divided by sixteen, as the kernel computes it, is the row's head. -/
theorem head_word (r : Fin 32) (d : Fin 128) : k0_pay21 (ix2 r d) = BitVec.ofNat 32 (Spec.headOf r).val := by
  refine (show k0_pay21 (ix2 r d) = k0_pay21 (ix2 r 0) from rfl).trans ?_
  revert r
  decide +kernel

/-- The queries stand in the columns of their own head; the other head's columns hold zero. -/
theorem queries_apply (x0 : Vec Ideal S1x32x128 .bf16) (r : Fin 32) (h : Fin 2) (d : Fin 128) :
    k0_pay22 (F := Ideal) x0 (ix2 r (col h d)) = if h = Spec.headOf r then x0 (ix3 0 r d) else 0 := by
  unfold k0_pay22
  refine (side_by_side _ _ _ r h d).trans ?_
  have e : shapeCast S32x128 x0 shapeCasts_S1x32x128_S32x128 (ix2 r d) = x0 (ix3 0 r d) :=
    shapeCast_apply _ _ _ _ (by
      rw [Shape.rowMajor_val_three, Shape.rowMajor_val_two]
      show (0 * 32 + r.val) * 128 + d.val = r.val * 128 + d.val; omega)
  have z : Ideal.ofBits .bf16 0x0000#16 = 0 := by simp [Ideal.ofBits, Ideal.ieee]
  show (if h = 0 then Scalar.select (IntOp.cmpi .eq (k0_pay21 (ix2 r d)) 0#32)
      (shapeCast S32x128 x0 shapeCasts_S1x32x128_S32x128 (ix2 r d)) (Ideal.ofBits .bf16 0x0000#16)
    else Scalar.select (IntOp.cmpi .eq (k0_pay21 (ix2 r d)) 1#32)
      (shapeCast S32x128 x0 shapeCasts_S1x32x128_S32x128 (ix2 r d)) (Ideal.ofBits .bf16 0x0000#16)) = _
  rw [e, z, head_word]
  generalize Spec.headOf r = g
  fin_cases h <;> fin_cases g <;> rfl

/-! ## The dequantised rows and the scores -/

/-- A row of a chunk: the codes of its token times the token's scale. -/
theorem rows_apply (codes : Vec Ideal S1x2x4096x128 .i8) (scales : Vec Ideal S1x2x4096 .f32) (k : Fin 8) (t : Fin 512)
    (h : Fin 2) (d : Fin 128) :
    rows codes scales k (ix2 t (col h d))
      = (((codes (ix4 0 h (⟨512 * k.val + t.val, by omega⟩ : Fin 4096) d)).toInt : ℝ) : EReal)
        * scales (ix3 0 h (⟨512 * k.val + t.val, by omega⟩ : Fin 4096)) := by
  have hs : ∀ g : Fin 2, broadcastTo S512x128 (shapeCast S512x1 (truncf (F := Ideal) .bf16 (shapeCast S512 (scalesOf scales k g)
        shapeCasts_S1x1x512_S512) bitsLt_bf16_f32) shapeCasts_S512_S512x1) broadcasts_S512x1_S512x128 (ix2 t d)
      = scales (ix3 0 g (⟨512 * k.val + t.val, by omega⟩ : Fin 4096)) := fun g => by
    refine (spread_col (by decide) _ _ t d).trans ((cast_col _ _ t).trans ?_)
    refine (shapeCast_apply (scalesOf scales k g) _ (ix1 t) (ix3 0 0 t) ?_).trans ?_
    · rw [Shape.rowMajor_val_three, Shape.rowMajor_val_one]
      show (0 * 1 + 0) * 512 + t.val = t.val; omega
    · refine View.ld_unit_apply_of _ _ _ _ _ _ fun a => ?_
      fin_cases a
      · rfl
      · rfl
      · rfl
  have hc : ∀ g : Fin 2, shapeCast S512x128 (codesOf codes k g) shapeCasts_S1x1x512x128_S512x128 (ix2 t d)
      = codes (ix4 0 g (⟨512 * k.val + t.val, by omega⟩ : Fin 4096) d) := fun g => by
    refine (shapeCast_apply (codesOf codes k g) _ (ix2 t d) (ix4 0 0 t d) ?_).trans ?_
    · rw [Shape.rowMajor_val_four, Shape.rowMajor_val_two]
      show ((0 * 1 + 0) * 512 + t.val) * 128 + d.val = t.val * 128 + d.val; omega
    · refine View.ld_unit_apply_of _ _ _ _ _ _ fun a => ?_
      fin_cases a
      · rfl
      · rfl
      · rfl
      · show d.val = 0 + d.val; omega
  unfold rows k0_pay36
  refine (side_by_side _ _ _ t h d).trans ?_
  have both : ∀ g : Fin 2, (((shapeCast S512x128 (codesOf codes k g) shapeCasts_S1x1x512x128_S512x128 (ix2 t d)).toInt : ℝ) : EReal)
      * broadcastTo S512x128 (shapeCast S512x1 (truncf (F := Ideal) .bf16 (shapeCast S512 (scalesOf scales k g)
        shapeCasts_S1x1x512_S512) bitsLt_bf16_f32) shapeCasts_S512_S512x1) broadcasts_S512x1_S512x128 (ix2 t d)
      = (((codes (ix4 0 g (⟨512 * k.val + t.val, by omega⟩ : Fin 4096) d)).toInt : ℝ) : EReal)
        * scales (ix3 0 g (⟨512 * k.val + t.val, by omega⟩ : Fin 4096)) := fun g => by rw [hs g, hc g]
  by_cases h0 : h = 0
  · subst h0
    exact both 0
  · obtain rfl : h = 1 := by omega
    exact both 1

/-- The padded product: only the row's own head contributes. -/
theorem sum_queries (x0 : Vec Ideal S1x32x128 .bf16) (r : Fin 32) (f : Fin 256 → EReal) :
    ∑ c, k0_pay22 (F := Ideal) x0 (ix2 r c) * f c = ∑ d : Fin 128, x0 (ix3 0 r d) * f (col (Spec.headOf r) d) := by
  rw [sum_cols]
  simp only [queries_apply]
  generalize Spec.headOf r = g
  rw [Fin.sum_univ_two]
  fin_cases g
  · simp
  · simp

/-- The score of a chunk's token. -/
theorem scores_apply (x0 : Vec Ideal S1x32x128 .bf16) (keys : FVec Ideal S512x256 .bf16) (r : Fin 32) (t : Fin 512) :
    scores (k0_pay22 x0) keys (ix2 r t)
      = (∑ d : Fin 128, x0 (ix3 0 r d) * keys (ix2 t (col (Spec.headOf r) d))) * Ideal.ofBits .f32 0x3DB504F3#32 := by
  unfold scores k0_pay37
  show FloatOps.matmul (F := Ideal) (DotDims.transposedRhs 32 256 512) none (k0_pay22 x0) keys (constant S32x512 .f32 0x00000000#32)
    (ix2 r t) * Ideal.ofBits .f32 0x3DB504F3#32 = _
  congr 1
  refine (Ideal.matmul_transposedRhs_apply _ _ _ _ r t).trans ?_
  show Ideal.ofBits .f32 0x00000000#32 + _ = _
  rw [Ideal.ofBits_zero_f32, zero_add, sum_queries x0 r (fun c => keys (ix2 t c))]

/-! ## The three updates -/

section
variable (s : FVec Ideal S32x512 .f32) (m l : FVec Ideal S32x1 .f32) (acc : FVec Ideal S32x256 .f32)
  (vals : FVec Ideal S512x256 .bf16)

/-- The new running maximum. -/
theorem max_apply (r : Fin 32) :
    k0_pay69 s m (ix2 r 0) = max (m (ix2 r 0)) ((Finset.univ : Finset (Fin 512)).sup fun t => s (ix2 r t)) := by
  unfold k0_pay69
  show max (m (ix2 r 0)) (shapeCast S32x1 _ _ (ix2 r 0)) = _
  rw [cast_col]
  exact congrArg (max _) (max_cols _ _ _ _ r)

theorem stored_max_apply (r : Fin 32) :
    k0_pay74 s m (ix2 r 0) = max (m (ix2 r 0)) ((Finset.univ : Finset (Fin 512)).sup fun t => s (ix2 r t)) := by
  unfold k0_pay74
  rw [shapeCast_self]
  exact max_apply s m r

/-- A token's weight against the new maximum. -/
theorem weight_apply (r : Fin 32) (t : Fin 512) :
    k0_pay71 s m (ix2 r t) = Ideal.exp (s (ix2 r t) - k0_pay69 s m (ix2 r 0)) := by
  unfold k0_pay71
  show Ideal.exp (s (ix2 r t) - broadcastTo S32x512 (k0_pay69 s m) broadcasts_S32x1_S32x512 (ix2 r t)) = _
  rw [spread_col (by decide)]

/-- The new running sum. -/
theorem stored_sum_apply (r : Fin 32) :
    k0_pay72 s m l (ix2 r 0) = l (ix2 r 0) * Ideal.exp (m (ix2 r 0) - k0_pay69 s m (ix2 r 0))
      + ∑ t : Fin 512, Ideal.exp (s (ix2 r t) - k0_pay69 s m (ix2 r 0)) := by
  unfold k0_pay72
  rw [shapeCast_self]
  show l (ix2 r 0) * Ideal.exp (m (ix2 r 0) - k0_pay69 s m (ix2 r 0)) + shapeCast S32x1 _ _ (ix2 r 0) = _
  rw [cast_col]
  refine congrArg (_ + ·) ((add_cols _ _ _ _ r).trans ?_)
  simp only [weight_apply]

/-- The new running weighted sum. -/
theorem stored_acc_apply (r : Fin 32) (c : Fin 256) :
    k0_pay73 vals s m acc (ix2 r c) = acc (ix2 r c) * Ideal.exp (m (ix2 r 0) - k0_pay69 s m (ix2 r 0))
      + ∑ t : Fin 512, Ideal.exp (s (ix2 r t) - k0_pay69 s m (ix2 r 0)) * vals (ix2 t c) := by
  unfold k0_pay73
  rw [shapeCast_self]
  show acc (ix2 r c) * broadcastTo S32x256 (k0_pay70 s m) broadcasts_S32x1_S32x256 (ix2 r c)
    + FloatOps.matmul (F := Ideal) (DotDims.plain 32 512 256) none (k0_pay71 s m) vals (constant S32x256 .f32 0x00000000#32) (ix2 r c) = _
  rw [spread_col (by decide)]
  congr 1
  refine (Ideal.matmul_plain_apply _ _ _ _ r c).trans ?_
  show Ideal.ofBits .f32 0x00000000#32 + _ = _
  rw [Ideal.ofBits_zero_f32, zero_add]
  simp only [weight_apply]

end

/-! ## The quantiser -/

section
variable (x1 : Vec Ideal S1x2x128 .bf16)

/-- A row of a new token. -/
abbrev rowOf (h : Fin 2) : Fin 128 → EReal := fun d => x1 (ix3 0 h d)

theorem new_apply (h : Fin 2) (d : Fin 128) : k0_pay2 (F := Ideal) x1 (ix2 h d) = x1 (ix3 0 h d) := by
  unfold k0_pay2
  exact shapeCast_apply x1 _ (ix2 h d) (ix3 0 h d) (by
    rw [Shape.rowMajor_val_three, Shape.rowMajor_val_two]
    show (0 * 2 + h.val) * 128 + d.val = h.val * 128 + d.val; omega)

/-- The row's scale. -/
theorem qscale_apply (h : Fin 2) : k0_pay3 (F := Ideal) x1 (ix2 h 0) = Spec.qscale (rowOf x1 h) := by
  have e : shapeCast S2x1 (multiReduction (F := Ideal) .maximumf [1] S2 (absf (k0_pay2 x1)) 0xFF800000#32 reduces_S2x128_S2 (.inl rfl) rfl)
      shapeCasts_S2_S2x1 (ix2 h 0) = Spec.absmax (rowOf x1 h) := by
    refine (cast_col _ _ h).trans ((max_cols _ _ _ _ h).trans ?_)
    unfold Spec.absmax
    refine Finset.sup_congr rfl fun d _ => ?_
    show max (k0_pay2 x1 (ix2 h d)) (-(k0_pay2 x1 (ix2 h d))) = _
    rw [new_apply]
  unfold k0_pay3 Spec.qscale
  rw [← e]
  rfl

/-- The row's codes before they are stored. -/
theorem qval_apply (h : Fin 2) (d : Fin 128) : k0_pay4 (F := Ideal) x1 (ix2 h d) = Spec.qval (rowOf x1 h) d := by
  have e : broadcastTo S2x128 (k0_pay3 (F := Ideal) x1) broadcasts_S2x1_S2x128 (ix2 h d) = Spec.qscale (rowOf x1 h) :=
    (spread_col (by decide) _ _ h d).trans (qscale_apply x1 h)
  unfold k0_pay4 Spec.qval
  rw [← e]
  show min _ (max _ (Ideal.liftRound _ (Ideal.div (k0_pay2 x1 (ix2 h d)) _))) = _
  rw [new_apply]
  rfl

/-- The codes stored. -/
theorem codes_apply (h : Fin 2) (d : Fin 128) :
    k0_pay9 (k0_pay8 (F := Ideal) x1) (ix3 0 h d) = Spec.qcode (rowOf x1 h) d := by
  unfold k0_pay9 k0_pay8
  refine (shapeCast_apply _ _ (ix3 0 h d) (ix2 h d) (by
    rw [Shape.rowMajor_val_three, Shape.rowMajor_val_two]
    show h.val * 128 + d.val = (0 * 2 + h.val) * 128 + d.val; omega)).trans ?_
  show Ideal.fptosi 8 (k0_pay4 x1 (ix2 h d)) = _
  rw [qval_apply]
  rfl

/-- The scales stored. -/
theorem scale_apply (h : Fin 2) : k0_pay11 (k0_pay3 (F := Ideal) x1) (ix3 0 h 0) = Spec.qscale (rowOf x1 h) := by
  unfold k0_pay11
  refine (shapeCast_apply _ _ (ix3 0 h 0) (ix2 h 0) (by
    rw [Shape.rowMajor_val_three, Shape.rowMajor_val_two]
    show h.val * 1 + 0 = (0 * 2 + h.val) * 1 + 0; omega)).trans ?_
  exact qscale_apply x1 h

/-- The new token's row dequantised, the two heads side by side. -/
theorem new_row_apply (h : Fin 2) (d : Fin 128) :
    k0_pay13 (k0_pay3 (F := Ideal) x1) (k0_pay4 x1) (ix2 0 (col h d))
      = Spec.qval (rowOf x1 h) d * Spec.qscale (rowOf x1 h) := by
  have e : ∀ g : Fin 2, k0_pay4 (F := Ideal) x1 (ix2 g d)
      * broadcastTo S2x128 (truncf (F := Ideal) .bf16 (k0_pay3 x1) bitsLt_bf16_f32) broadcasts_S2x1_S2x128 (ix2 g d)
      = Spec.qval (rowOf x1 g) d * Spec.qscale (rowOf x1 g) := fun g => by
    rw [qval_apply, spread_col (by decide)]
    exact congrArg (_ * ·) (qscale_apply x1 g)
  unfold k0_pay13
  refine (side_by_side _ _ _ 0 h d).trans ?_
  by_cases h0 : h = 0
  · subst h0
    refine (if_pos rfl).trans ((extractStridedSlice_apply _ _ _ (ix2 0 d) (ix2 (0 : Fin 2) d) fun a => ?_).trans (e 0))
    fin_cases a
    · rfl
    · show d.val = 0 + d.val; omega
  · obtain rfl : h = 1 := by omega
    refine (if_neg h0).trans ((extractStridedSlice_apply _ _ _ (ix2 0 d) (ix2 (1 : Fin 2) d) fun a => ?_).trans (e 1))
    fin_cases a
    · rfl
    · show d.val = 0 + d.val; omega

/-- The new token's score. -/
theorem new_score_apply (x0 : Vec Ideal S1x32x128 .bf16) (r : Fin 32) :
    k0_pay14 (k0_pay22 x0) (k0_pay3 (F := Ideal) x1) (k0_pay4 x1) (ix2 r 0)
      = (∑ d : Fin 128, x0 (ix3 0 r d) * (Spec.qval (rowOf x1 (Spec.headOf r)) d * Spec.qscale (rowOf x1 (Spec.headOf r))))
        * Ideal.ofBits .f32 0x3DB504F3#32 := by
  unfold k0_pay14
  show shapeCast S32x1 (multiReduction (F := Ideal) .add [1] S32 (mulf (extf .f32 (k0_pay22 x0) bitsLt_bf16_f32)
    (broadcastTo S32x256 (extf .f32 (k0_pay13 (k0_pay3 (F := Ideal) x1) (k0_pay4 x1)) bitsLt_bf16_f32) broadcasts_S1x256_S32x256))
      0x00000000#32 reduces_S32x256_S32 (.inl rfl) rfl) shapeCasts_S32_S32x1 (ix2 r 0) * Ideal.ofBits .f32 0x3DB504F3#32 = _
  congr 1
  refine (cast_col _ _ r).trans ((add_cols _ _ _ _ r).trans ?_)
  refine Eq.trans (Finset.sum_congr rfl fun c _ => ?_) ((sum_queries x0 r fun c => k0_pay13 (k0_pay3 (F := Ideal) x1) (k0_pay4 x1) (ix2 0 c)).trans
    (Finset.sum_congr rfl fun d _ => ?_))
  · show k0_pay22 x0 (ix2 r c) * broadcastTo S32x256 _ broadcasts_S1x256_S32x256 (ix2 r c) = _
    rw [spread_row (by decide)]
    rfl
  · show x0 (ix3 0 r d) * k0_pay13 (k0_pay3 (F := Ideal) x1) (k0_pay4 x1) (ix2 0 (col (Spec.headOf r) d)) = _
    rw [new_row_apply]

end

/-! ## The last division -/

/-- Each row of the result is read in the columns of its own head, divided by the row's sum, the new token folded in. -/
theorem divide_apply (v : FVec Ideal S1x256 .bf16) (al p l : FVec Ideal S32x1 .f32) (acc : FVec Ideal S32x256 .f32)
    (r : Fin 32) (d : Fin 128) :
    k0_pay1 (F := Ideal) k0_pay21 v al p l acc (ix3 0 r d)
      = Ideal.div (acc (ix2 r (col (Spec.headOf r) d)) * al (ix2 r 0) + p (ix2 r 0) * v (ix2 0 (col (Spec.headOf r) d)))
          (l (ix2 r 0) * al (ix2 r 0) + p (ix2 r 0)) := by
  have e : ∀ c : Fin 256, divf (addf (mulf acc (broadcastTo S32x256 al broadcasts_S32x1_S32x256))
        (mulf (broadcastTo S32x256 (extf (F := Ideal) .f32 (truncf .bf16 p bitsLt_bf16_f32) bitsLt_bf16_f32) broadcasts_S32x1_S32x256)
          (broadcastTo S32x256 (extf (F := Ideal) .f32 v bitsLt_bf16_f32) broadcasts_S1x256_S32x256)))
        (broadcastTo S32x256 (addf (mulf l al) p) broadcasts_S32x1_S32x256) (ix2 r c)
      = Ideal.div (acc (ix2 r c) * al (ix2 r 0) + p (ix2 r 0) * v (ix2 0 c)) (l (ix2 r 0) * al (ix2 r 0) + p (ix2 r 0)) := fun c => by
    show Ideal.div (acc (ix2 r c) * broadcastTo S32x256 al broadcasts_S32x1_S32x256 (ix2 r c)
      + broadcastTo S32x256 (extf (F := Ideal) .f32 (truncf .bf16 p bitsLt_bf16_f32) bitsLt_bf16_f32) broadcasts_S32x1_S32x256 (ix2 r c)
        * broadcastTo S32x256 (extf (F := Ideal) .f32 v bitsLt_bf16_f32) broadcasts_S1x256_S32x256 (ix2 r c))
      (broadcastTo S32x256 (addf (mulf l al) p) broadcasts_S32x1_S32x256 (ix2 r c)) = _
    rw [spread_col (by decide), spread_col (by decide), spread_col (by decide), spread_row (by decide)]
    rfl
  unfold k0_pay1
  refine (shapeCast_apply _ _ (ix3 0 r d) (ix2 r d) (by
    rw [Shape.rowMajor_val_three, Shape.rowMajor_val_two]
    show r.val * 128 + d.val = (0 * 32 + r.val) * 128 + d.val; omega)).trans ?_
  show Scalar.select (IntOp.cmpi .eq (k0_pay21 (ix2 r d)) 0#32) (extractStridedSlice S32x128 ![0, 0] (_ : FVec Ideal S32x256 .f32) slices_S32x256_o0_0_S32x128 (ix2 r d))
    (extractStridedSlice S32x128 ![0, 128] (_ : FVec Ideal S32x256 .f32) slices_S32x256_o0_128_S32x128 (ix2 r d)) = _
  rw [head_word]
  by_cases h0 : Spec.headOf r = 0
  · rw [h0]
    refine (select_one _ _).trans (Eq.trans ?_ (e (col 0 d)))
    refine extractStridedSlice_apply _ _ _ (ix2 r d) (ix2 r (col 0 d)) fun a => ?_
    fin_cases a
    · show r.val = 0 + r.val; omega
    · show 128 * 0 + d.val = 0 + d.val; omega
  · obtain h1 : Spec.headOf r = 1 := by omega
    rw [h1]
    refine (select_zero _ _).trans (Eq.trans ?_ (e (col 1 d)))
    refine extractStridedSlice_apply _ _ _ (ix2 r d) (ix2 r (col 1 d)) fun a => ?_
    fin_cases a
    · show r.val = 0 + r.val; omega
    · show 128 * 1 + d.val = 128 + d.val; omega

end Cert.KernelIdeal.Chunk

end

end
-- ==== Proof.Fold.lean ====
/-
A step of the kernel as a step of the running softmax: the state that stands for the first `n` tokens, folded over a block
of 4096 tokens, stands for the first `n + 4096`, and the last step's division gives the softmax over one token more.
-/
module

public import proofs.«01_k».proof.Proof.Softmax
public import proofs.«01_k».proof.Proof.Chunk

@[expose] public section

set_option maxRecDepth 16384

noncomputable section

namespace Cert.KernelIdeal.Fold

open Cert Cert.KernelIdeal Cert.KernelIdeal.Gen Cert.KernelIdeal.Body Cert.KernelIdeal.Chunk
open Idealize.ShloMosaic hiding ix1 ix2 ix3 ix4
open Idealize.ShloMosaic.TcCoe Idealize.ShloMosaic.ValueIdx

/-- The state stands for the first `n` tokens: each row's maximum, sum of weights and weighted sum of values, for the
scores `s` of the rows and the values `v` of the heads. -/
structure Holds (s : Fin 32 → ℕ → EReal) (v : Fin 2 → Fin 128 → ℕ → EReal) (n : ℕ) (st : State Ideal) : Prop where
  max : ∀ r, st.1 (ix2 r 0) = Softmax.top (s r) n
  sum : ∀ r, st.2.1 (ix2 r 0) = Softmax.mass (s r) n
  acc : ∀ r h d, st.2.2 (ix2 r (col h d)) = Softmax.wsum (s r) (v h d) n

/-- The empty state stands for no token. -/
theorem init_holds (s : Fin 32 → ℕ → EReal) (v : Fin 2 → Fin 128 → ℕ → EReal) : Holds s v 0 init where
  max r := by
    unfold init k0_pay18
    dsimp only
    rw [Softmax.top_zero, shapeCast_self]
    exact Spec.ofBits_neg_inf
  sum r := by
    unfold init k0_pay19
    dsimp only
    rw [Softmax.mass_zero, shapeCast_self]
    exact Ideal.ofBits_zero_f32
  acc r h d := by
    unfold init k0_pay20
    dsimp only
    rw [Softmax.wsum_zero, shapeCast_self]
    exact Ideal.ofBits_zero_f32

section
variable {s : Fin 32 → ℕ → EReal} {v : Fin 2 → Fin 128 → ℕ → EReal} {n : ℕ} {st : State Ideal}

/-- A chunk whose scores and values are those of the tokens `n … n + 511` takes the state to the first `n + 512`. -/
theorem step_holds (q : FVec Ideal S32x256 .bf16) (x3 : Vec Ideal S1x2x4096x128 .i8) (x4 : Vec Ideal S1x2x4096 .f32)
    (x5 : Vec Ideal S1x2x4096x128 .i8) (x6 : Vec Ideal S1x2x4096 .f32) (k : Fin 8) (hst : Holds s v n st)
    (hs : ∀ (r : Fin 32) (t : Fin 512), scores q (rows x3 x4 k) (ix2 r t) = s r (n + t.val))
    (hv : ∀ (t : Fin 512) (h : Fin 2) (d : Fin 128), rows x5 x6 k (ix2 t (col h d)) = v h d (n + t.val)) :
    Holds s v (n + 512) (step q x3 x4 x5 x6 k st) := by
  have htop : ∀ r : Fin 32, k0_pay69 (scores q (rows x3 x4 k)) st.1 (ix2 r 0) = Softmax.top (s r) (n + 512) := fun r => by
    rw [max_apply, hst.max, Softmax.top_add]
    simp only [hs]
  refine ⟨fun r => ?_, fun r => ?_, fun r h d => ?_⟩
  · exact (stored_max_apply _ _ r).trans ((max_apply _ _ r).symm.trans (htop r))
  · refine (stored_sum_apply _ _ _ r).trans ?_
    rw [htop, hst.max, hst.sum, Softmax.mass_add]
    simp only [hs]
  · refine (stored_acc_apply _ _ _ _ r (col h d)).trans ?_
    rw [htop, hst.max, hst.acc, Softmax.wsum_add]
    simp only [hs, hv]

end

section
variable (x0 : Vec Ideal S1x32x128 .bf16) (x1 x2 : Vec Ideal S1x2x128 .bf16)
  (x3 : Vec Ideal S1x2x4096x128 .i8) (x4 : Vec Ideal S1x2x4096 .f32)
  (x5 : Vec Ideal S1x2x4096x128 .i8) (x6 : Vec Ideal S1x2x4096 .f32)
  (K V : Fin 2 → Fin 128 → ℕ → EReal)

/-- The score of a token against a block of queries. -/
def score (r : Fin 32) (t : ℕ) : EReal :=
  (∑ d : Fin 128, x0 (ix3 0 r d) * K (Spec.headOf r) d t) * Ideal.ofBits .f32 0x3DB504F3#32

/-- A block holding the tokens `n … n + 4095` takes the state to the first `n + 4096`. -/
theorem block_holds {n : ℕ} {st : State Ideal} (hst : Holds (score x0 K) V n st)
    (hk : ∀ (h : Fin 2) (t : Fin 4096) (d : Fin 128),
      (((x3 (ix4 0 h t d)).toInt : ℝ) : EReal) * x4 (ix3 0 h t) = K h d (n + t.val))
    (hv : ∀ (h : Fin 2) (t : Fin 4096) (d : Fin 128),
      (((x5 (ix4 0 h t d)).toInt : ℝ) : EReal) * x6 (ix3 0 h t) = V h d (n + t.val)) :
    Holds (score x0 K) V (n + 4096) (block (k0_pay22 x0) x3 x4 x5 x6 st) := by
  have go : ∀ (k : Fin 8) (st : State Ideal), Holds (score x0 K) V (n + 512 * k.val) st →
      Holds (score x0 K) V (n + 512 * k.val + 512) (step (k0_pay22 x0) x3 x4 x5 x6 k st) := fun k st h => by
    refine step_holds _ x3 x4 x5 x6 k h (fun r t => ?_) fun t h d => ?_
    · rw [scores_apply]
      unfold score
      congr 1
      refine Finset.sum_congr rfl fun d _ => ?_
      rw [rows_apply, hk, ← Nat.add_assoc]
    · rw [rows_apply, hv, ← Nat.add_assoc]
  exact go 7 _ (go 6 _ (go 5 _ (go 4 _ (go 3 _ (go 2 _ (go 1 _ (go 0 _ hst)))))))

/-- The division of the last step: the new token is folded in as token `n`. -/
theorem last_apply {n : ℕ} {st : State Ideal} (hst : Holds (score x0 K) V n st)
    (hk : ∀ (h : Fin 2) (d : Fin 128), Spec.qval (rowOf x1 h) d * Spec.qscale (rowOf x1 h) = K h d n)
    (hv : ∀ (h : Fin 2) (d : Fin 128), Spec.qval (rowOf x2 h) d * Spec.qscale (rowOf x2 h) = V h d n)
    (r : Fin 32) (d : Fin 128) :
    last x0 x1 x2 st (ix3 0 r d)
      = Ideal.div (Softmax.wsum (score x0 K r) (V (Spec.headOf r) d) (n + 1)) (Softmax.mass (score x0 K r) (n + 1)) := by
  have hs : k0_pay14 (k0_pay22 x0) (k0_pay3 (F := Ideal) x1) (k0_pay4 x1) (ix2 r 0) = score x0 K r n := by
    rw [new_score_apply]
    simp only [hk]
    rfl
  have hm : k0_pay15 (k0_pay22 x0) (k0_pay3 (F := Ideal) x1) (k0_pay4 x1) st.1 (ix2 r 0)
      = Softmax.top (score x0 K r) (n + 1) := by
    unfold k0_pay15
    show max (st.1 (ix2 r 0)) (k0_pay14 (k0_pay22 x0) (k0_pay3 (F := Ideal) x1) (k0_pay4 x1) (ix2 r 0)) = _
    rw [hs, hst.max, Softmax.top_add]
    simp
  have ha : k0_pay16 (k0_pay22 x0) (k0_pay3 (F := Ideal) x1) (k0_pay4 x1) st.1 (ix2 r 0)
      = Ideal.exp (Softmax.top (score x0 K r) n - Softmax.top (score x0 K r) (n + 1)) := by
    unfold k0_pay16
    show Ideal.exp (st.1 (ix2 r 0) - k0_pay15 (k0_pay22 x0) (k0_pay3 (F := Ideal) x1) (k0_pay4 x1) st.1 (ix2 r 0)) = _
    rw [hm, hst.max]
  have hp : k0_pay17 (k0_pay22 x0) (k0_pay3 (F := Ideal) x1) (k0_pay4 x1) st.1 (ix2 r 0)
      = Ideal.exp (score x0 K r n - Softmax.top (score x0 K r) (n + 1)) := by
    unfold k0_pay17
    show Ideal.exp (k0_pay14 (k0_pay22 x0) (k0_pay3 (F := Ideal) x1) (k0_pay4 x1) (ix2 r 0)
      - k0_pay15 (k0_pay22 x0) (k0_pay3 (F := Ideal) x1) (k0_pay4 x1) st.1 (ix2 r 0)) = _
    rw [hm, hs]
  have hn : k0_pay13 (k0_pay6 (F := Ideal) x2) (k0_pay7 x2) (ix2 0 (col (Spec.headOf r) d)) = V (Spec.headOf r) d n :=
    (new_row_apply x2 (Spec.headOf r) d).trans (hv _ _)
  unfold last
  refine (divide_apply _ _ _ _ _ r d).trans ?_
  rw [ha, hp, hn, hst.sum, hst.acc, Softmax.wsum_add, Softmax.mass_add]
  simp

end

end Cert.KernelIdeal.Fold

end

end
-- ==== Proof.Sweep.lean ====
/-
The sweep of the grid: after step `t` the carried state stands for the first `4096 (t mod 32 + 1)` tokens of batch
`t / 32`, and the last step of a batch leaves the batch's five results.
-/
module

public import proofs.«01_k».proof.Proof.Blocks
public import proofs.«01_k».proof.Proof.Fold

@[expose] public section

set_option maxRecDepth 16384

noncomputable section

namespace Cert.KernelIdeal.Sweep

open Cert Cert.KernelIdeal Cert.KernelIdeal.Gen Cert.KernelIdeal.Body Cert.KernelIdeal.Blocks
open Cert.KernelIdeal.Fold (Holds init_holds block_holds last_apply)
open Idealize.ShloMosaic hiding ix1 ix2 ix3 ix4
open Idealize.ShloMosaic.TcCoe Idealize.ShloMosaic.ValueIdx

section
variable {F : FTy → Type} [FloatOps F]
variable (m : (ℓ : Loc nD τ sig) → Buf (Elt F) ℓ)

/-- The state that step `n` leaves to the next. -/
def carried (c : Dev nD) (n : ℕ) (hn : n < cfg0.N) : State F :=
  ((outsAt0 m c n hn).2.2.2.2.2.1, (outsAt0 m c n hn).2.2.2.2.2.2.1, (outsAt0 m c n hn).2.2.2.2.2.2.2)

/-- The state before step `t`, for a step that takes it from the step before. -/
abbrev before (c : Dev nD) (t : Fin cfg0.N) : State F :=
  carried m c (t.val - 1) (Nat.lt_of_le_of_lt (Nat.sub_le _ _) t.isLt)

/-- Step `t` folds its tokens over the state `st`. -/
abbrev folded (c : Dev nD) (t : Fin cfg0.N) (st : State F) : State F :=
  block (k0_pay22 (iblk m c 0 t)) (iblk m c 3 t) (iblk m c 4 t) (iblk m c 5 t) (iblk m c 6 t) st

/-- The first step of a batch starts from the empty state. -/
theorem carried_first (c : Dev nD) (t : Fin cfg0.N) (h0 : t.val % 32 = 0) :
    carried m c t.val t.isLt = folded m c t init := by
  have e := outsAt0_A m c t h0 (by omega)
  unfold carried
  rw [e]
  refine Prod.ext ?_ (Prod.ext ?_ ?_) <;> dsimp only
  · exact And.left (state_A (F := F) ..)
  · exact And.left (And.right (state_A (F := F) ..))
  · exact And.right (And.right (state_A (F := F) ..))

/-- A later step folds over what the step before left. -/
theorem carried_next (c : Dev nD) (t : Fin cfg0.N) (h0 : ¬t.val % 32 = 0) :
    carried m c t.val t.isLt = folded m c t (before m c t) := by
  by_cases h1 : t.val % 32 = 31
  · have e := outsAt0_C m c t h0 h1
    unfold carried
    rw [e]
    refine Prod.ext ?_ (Prod.ext ?_ ?_) <;> dsimp only
    · exact And.left (state_C (F := F) ..)
    · exact And.left (And.right (state_C (F := F) ..))
    · exact And.right (And.right (state_C (F := F) ..))
  · have e := outsAt0_B m c t h0 h1
    unfold carried
    rw [e]
    refine Prod.ext ?_ (Prod.ext ?_ ?_) <;> dsimp only
    · exact And.left (state_B (F := F) ..)
    · exact And.left (And.right (state_B (F := F) ..))
    · exact And.right (And.right (state_B (F := F) ..))

/-- The last step of a batch writes the division of the state it leaves, and the codes and scales of the new rows. -/
theorem results_last (c : Dev nD) (t : Fin cfg0.N) (h1 : t.val % 32 = 31) :
    (outsAt0 m c t.val t.isLt).1 = last (iblk m c 0 t) (iblk m c 1 t) (iblk m c 2 t) (carried m c t.val t.isLt)
    ∧ (outsAt0 m c t.val t.isLt).2.1 = k0_pay9 (k0_pay8 (iblk m c 1 t))
    ∧ (outsAt0 m c t.val t.isLt).2.2.1 = k0_pay11 (k0_pay3 (iblk m c 1 t))
    ∧ (outsAt0 m c t.val t.isLt).2.2.2.1 = k0_pay9 (k0_pay8 (iblk m c 2 t))
    ∧ (outsAt0 m c t.val t.isLt).2.2.2.2.1 = k0_pay11 (k0_pay3 (iblk m c 2 t)) := by
  rw [carried_next m c t (by omega), outsAt0_C m c t (by omega) h1]
  refine ⟨?_, ?_, ?_, ?_, ?_⟩ <;> dsimp only
  · exact And.left (results_C (F := F) ..)
  · exact And.left (And.right (results_C (F := F) ..))
  · exact And.left (And.right (And.right (results_C (F := F) ..)))
  · exact (And.left (And.right (And.right (And.right (results_C (F := F) ..))))).trans rfl
  · exact (And.right (And.right (And.right (And.right (results_C (F := F) ..))))).trans rfl

end

/-! ## At the extended reals -/

variable (m : (ℓ : Loc nD τ sig) → Buf (Elt Ideal) ℓ) (c : Dev nD)

/-- The keys of a batch. -/
abbrev keys (b : Fin 16) : Fin 2 → Fin 128 → ℕ → EReal :=
  Spec.token (m ((c : Thread nD τ).loc main_arg1)) (m ((c : Thread nD τ).loc main_arg3)) (m ((c : Thread nD τ).loc main_arg4)) b

/-- The values of a batch. -/
abbrev values (b : Fin 16) : Fin 2 → Fin 128 → ℕ → EReal :=
  Spec.token (m ((c : Thread nD τ).loc main_arg2)) (m ((c : Thread nD τ).loc main_arg5)) (m ((c : Thread nD τ).loc main_arg6)) b

/-- The scores of a batch. -/
abbrev scoresOf (b : Fin 16) : Fin 32 → ℕ → EReal :=
  Spec.score (m ((c : Thread nD τ).loc main_arg0)) (m ((c : Thread nD τ).loc main_arg1)) (m ((c : Thread nD τ).loc main_arg3))
    (m ((c : Thread nD τ).loc main_arg4)) b

/-- The scores against the queries that step `t` reads are those of its batch. -/
theorem score_eq (t : Fin cfg0.N) : Fold.score (iblk m c 0 t) (keys m c (batch t)) = scoresOf m c (batch t) := by
  funext r k
  unfold Fold.score scoresOf Spec.score
  congr 1
  refine Finset.sum_congr rfl fun d _ => ?_
  congr 1
  exact read0 m c t r d

/-- A token of the cache, by its number in the cache. -/
theorem token_cache (new : (⟨4, ![16, 1, 2, 128]⟩ : Shape).Idx → EReal) (codes : (⟨4, ![16, 131072, 2, 128]⟩ : Shape).Idx → BitVec 8)
    (scales : (⟨3, ![16, 131072, 2]⟩ : Shape).Idx → EReal) (b : Fin 16) (h : Fin 2) (d : Fin 128) (k : Fin 131072) :
    Spec.token new codes scales b h d k.val = (((codes (ix4 b k h d)).toInt : ℝ) : EReal) * scales (ix3 b k h) :=
  dif_pos k.isLt

/-- The token after the cache is the quantised new row. -/
theorem token_new (new : (⟨4, ![16, 1, 2, 128]⟩ : Shape).Idx → EReal) (codes : (⟨4, ![16, 131072, 2, 128]⟩ : Shape).Idx → BitVec 8)
    (scales : (⟨3, ![16, 131072, 2]⟩ : Shape).Idx → EReal) (b : Fin 16) (h : Fin 2) (d : Fin 128) :
    Spec.token new codes scales b h d 131072 = Spec.qval (Spec.newRow new b h) d * Spec.qscale (Spec.newRow new b h) :=
  dif_neg (by omega)

/-- Step `t` takes the state of its batch's first `4096 (t mod 32)` tokens to that of 4096 more. -/
theorem folded_holds (t : Fin cfg0.N) {st : State Ideal}
    (hst : Holds (scoresOf m c (batch t)) (values m c (batch t)) (4096 * (t.val % 32)) st) :
    Holds (scoresOf m c (batch t)) (values m c (batch t)) (4096 * (t.val % 32) + 4096) (folded m c t st) := by
  rw [← score_eq m c t] at hst ⊢
  refine block_holds (iblk m c 0 t) (iblk m c 3 t) (iblk m c 4 t) (iblk m c 5 t) (iblk m c 6 t) _ _ hst
    (fun h u d => ?_) fun h u d => ?_
  · rw [read3 m c t h u d, read4 m c t h u]
    exact (token_cache _ _ _ (batch t) h d (tok t u)).symm
  · rw [read5 m c t h u d, read6 m c t h u]
    exact (token_cache _ _ _ (batch t) h d (tok t u)).symm

/-- After step `n` the carried state stands for the first `4096 (n mod 32 + 1)` tokens of the step's batch. -/
theorem carried_holds (n : ℕ) (hn : n < cfg0.N) :
    Holds (scoresOf m c (batch ⟨n, hn⟩)) (values m c (batch ⟨n, hn⟩)) (4096 * (n % 32) + 4096) (carried m c n hn) := by
  induction n with
  | zero =>
    rw [carried_first m c ⟨0, hn⟩ rfl]
    exact folded_holds m c ⟨0, hn⟩ (init_holds _ _)
  | succ k ih =>
    by_cases h0 : (k + 1) % 32 = 0
    · rw [carried_first m c ⟨k + 1, hn⟩ h0]
      refine folded_holds m c ⟨k + 1, hn⟩ ?_
      show Holds _ _ (4096 * ((k + 1) % 32)) _
      rw [h0]
      exact init_holds _ _
    · rw [carried_next m c ⟨k + 1, hn⟩ h0]
      refine folded_holds m c ⟨k + 1, hn⟩ ?_
      have hb : batch ⟨k + 1, hn⟩ = batch ⟨k, Nat.lt_of_succ_lt hn⟩ := Fin.ext (by show (k + 1) / 32 = k / 32; omega)
      have he : 4096 * ((k + 1) % 32) = 4096 * (k % 32) + 4096 := by omega
      show Holds _ _ (4096 * ((k + 1) % 32)) _
      rw [hb, he]
      exact ih (Nat.lt_of_succ_lt hn)

/-- The new keys' rows that step `t` reads are those of its batch. -/
theorem rowOf1 (t : Fin cfg0.N) (h : Fin 2) : Chunk.rowOf (iblk m c 1 t) h
    = Spec.newRow (m ((c : Thread nD τ).loc main_arg1)) (batch t) h := funext fun d => read1 m c t h d

/-- The new values' rows that step `t` reads are those of its batch. -/
theorem rowOf2 (t : Fin cfg0.N) (h : Fin 2) : Chunk.rowOf (iblk m c 2 t) h
    = Spec.newRow (m ((c : Thread nD τ).loc main_arg2)) (batch t) h := funext fun d => read2 m c t h d

variable (t : Fin cfg0.N) (h1 : t.val % 32 = 31)
include h1

/-- The last step of a batch writes the batch's attention output. -/
theorem out_apply (r : Fin 32) (d : Fin 128) : (outsAt0 m c t.val t.isLt).1 (ix3 0 r d)
    = Spec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (batch t) r d := by
  have hst := carried_holds m c t.val t.isLt
  rw [h1, ← score_eq m c t] at hst
  rw [(results_last m c t h1).1]
  refine (last_apply (iblk m c 0 t) (iblk m c 1 t) (iblk m c 2 t) _ _ hst (fun h d => ?_) (fun h d => ?_) r d).trans ?_
  · rw [rowOf1]; exact (token_new _ _ _ _ h d).symm
  · rw [rowOf2]; exact (token_new _ _ _ _ h d).symm
  · rw [score_eq]; rfl

/-- The last step of a batch writes the codes of the new key rows. -/
theorem keyCodes_apply (h : Fin 2) (d : Fin 128) : (outsAt0 m c t.val t.isLt).2.1 (ix3 0 h d)
    = Spec.qcode (Spec.newRow (m ((c : Thread nD τ).loc main_arg1)) (batch t) h) d := by
  rw [(results_last m c t h1).2.1]
  exact (Chunk.codes_apply _ h d).trans (by rw [rowOf1])

/-- The last step of a batch writes the scales of the new key rows. -/
theorem keyScales_apply (h : Fin 2) : (outsAt0 m c t.val t.isLt).2.2.1 (ix3 0 h 0)
    = Spec.qscale (Spec.newRow (m ((c : Thread nD τ).loc main_arg1)) (batch t) h) := by
  rw [(results_last m c t h1).2.2.1]
  exact (Chunk.scale_apply _ h).trans (by rw [rowOf1])

/-- The last step of a batch writes the codes of the new value rows. -/
theorem valueCodes_apply (h : Fin 2) (d : Fin 128) : (outsAt0 m c t.val t.isLt).2.2.2.1 (ix3 0 h d)
    = Spec.qcode (Spec.newRow (m ((c : Thread nD τ).loc main_arg2)) (batch t) h) d := by
  rw [(results_last m c t h1).2.2.2.1]
  exact (Chunk.codes_apply _ h d).trans (by rw [rowOf2])

/-- The last step of a batch writes the scales of the new value rows. -/
theorem valueScales_apply (h : Fin 2) : (outsAt0 m c t.val t.isLt).2.2.2.2.1 (ix3 0 h 0)
    = Spec.qscale (Spec.newRow (m ((c : Thread nD τ).loc main_arg2)) (batch t) h) := by
  rw [(results_last m c t h1).2.2.2.2]
  exact (Chunk.scale_apply _ h).trans (by rw [rowOf2])

end Cert.KernelIdeal.Sweep

end
-- ==== Proof.Results.lean ====
/-
The five arrays the kernel leaves, element by element: batch `b`'s blocks are what step `32 b + 31` wrote.
-/
module

public import proofs.«01_k».proof.Proof.Sweep

@[expose] public section

set_option maxRecDepth 16384

noncomputable section

namespace Cert.KernelIdeal.Results

open Cert Cert.KernelIdeal Cert.KernelIdeal.Gen Cert.KernelIdeal.Value Cert.KernelIdeal.Blocks Cert.KernelIdeal.Sweep
open Idealize.ShloMosaic hiding ix1 ix2 ix3 ix4
open Idealize.ShloMosaic.TcCoe Idealize.ShloMosaic.ValueIdx

variable (m : (ℓ : Loc nD τ sig) → Buf (Elt Ideal) ℓ) (c : Dev nD)

/-- The last step of batch `b`. -/
def lastOf (b : Fin 16) : Fin cfg0.N := ⟨32 * b.val + 31, lt_of_lt_of_eq (by omega) N_0.symm⟩

theorem lastOf_mod (b : Fin 16) : (lastOf b).val % 32 = 31 := by show (32 * b.val + 31) % 32 = 31; omega

theorem batch_lastOf (b : Fin 16) : batch (lastOf b) = b := Fin.ext (by show (32 * b.val + 31) / 32 = b.val; omega)

/-- The sweep at a point that is the last of batch `b` is what that step leaves. -/
theorem acc_last (b : Fin 16) (n : ℕ) (hn : n < cfg0.N) (e : n = 32 * b.val + 31) :
    Pipeline.accAt (fun n h => stAt0 m c n h junk0) (stAt0 m c) 0 n (by omega)
      = outsAt0 m c (lastOf b).val (lastOf b).isLt := by
  subst e
  exact (outsAt0_sweep m c _ hn).symm

/-- The attention output. -/
theorem out_apply (b : Fin 16) (r : Fin 32) (d : Fin 128) : G7 m c (ix3 b r d)
    = Spec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b r d := by
  have hp : pt7Of (ix3 b r d) = 32 * b.val + 31 := by
    show 32 * (1 * (b.val / 1 - 0) + 1 * (r.val / 32 - 0) + 1 * (d.val / 128 - 0)) + 31 = _; omega
  have hN : pt7Of (ix3 b r d) < cfg0.N := hp ▸ (lastOf b).isLt
  have hl : loc7Of (ix3 b r d) = ix3 0 r d := funext fun a => match a with
    | ⟨0, _⟩ => Fin.ext (Nat.mod_one _)
    | ⟨1, _⟩ => Fin.ext (Nat.mod_eq_of_lt r.isLt)
    | ⟨2, _⟩ => Fin.ext (Nat.mod_eq_of_lt d.isLt)
  refine (dif_pos hN).trans ?_
  rw [acc_last m c b _ hN hp, hl, Sweep.out_apply m c (lastOf b) (lastOf_mod b), batch_lastOf]

/-- The codes of the new key rows. -/
theorem keyCodes_apply (b : Fin 16) (h : Fin 2) (d : Fin 128) : G8 m c (ix3 b h d)
    = Spec.qcode (Spec.newRow (m ((c : Thread nD τ).loc main_arg1)) b h) d := by
  have hp : pt8Of (ix3 b h d) = 32 * b.val + 31 := by
    show 32 * (1 * (b.val / 1 - 0) + 1 * (h.val / 2 - 0) + 1 * (d.val / 128 - 0)) + 31 = _; omega
  have hN : pt8Of (ix3 b h d) < cfg0.N := hp ▸ (lastOf b).isLt
  have hl : loc8Of (ix3 b h d) = ix3 0 h d := funext fun a => match a with
    | ⟨0, _⟩ => Fin.ext (Nat.mod_one _)
    | ⟨1, _⟩ => Fin.ext (Nat.mod_eq_of_lt h.isLt)
    | ⟨2, _⟩ => Fin.ext (Nat.mod_eq_of_lt d.isLt)
  refine (dif_pos hN).trans ?_
  rw [acc_last m c b _ hN hp, hl, Sweep.keyCodes_apply m c (lastOf b) (lastOf_mod b), batch_lastOf]

/-- The scales of the new key rows. -/
theorem keyScales_apply (b : Fin 16) (h : Fin 2) : G9 m c (ix3 b h 0)
    = Spec.qscale (Spec.newRow (m ((c : Thread nD τ).loc main_arg1)) b h) := by
  have hp : pt9Of (ix3 b h 0) = 32 * b.val + 31 := by
    show 32 * (1 * (b.val / 1 - 0) + 1 * (h.val / 2 - 0) + 1 * (0 / 1 - 0)) + 31 = _; omega
  have hN : pt9Of (ix3 b h 0) < cfg0.N := hp ▸ (lastOf b).isLt
  have hl : loc9Of (ix3 b h 0) = ix3 0 h 0 := funext fun a => match a with
    | ⟨0, _⟩ => Fin.ext (Nat.mod_one _)
    | ⟨1, _⟩ => Fin.ext (Nat.mod_eq_of_lt h.isLt)
    | ⟨2, _⟩ => rfl
  refine (dif_pos hN).trans ?_
  rw [acc_last m c b _ hN hp, hl, Sweep.keyScales_apply m c (lastOf b) (lastOf_mod b), batch_lastOf]

/-- The codes of the new value rows. -/
theorem valueCodes_apply (b : Fin 16) (h : Fin 2) (d : Fin 128) : G10 m c (ix3 b h d)
    = Spec.qcode (Spec.newRow (m ((c : Thread nD τ).loc main_arg2)) b h) d := by
  have hp : pt10Of (ix3 b h d) = 32 * b.val + 31 := by
    show 32 * (1 * (b.val / 1 - 0) + 1 * (h.val / 2 - 0) + 1 * (d.val / 128 - 0)) + 31 = _; omega
  have hN : pt10Of (ix3 b h d) < cfg0.N := hp ▸ (lastOf b).isLt
  have hl : loc10Of (ix3 b h d) = ix3 0 h d := funext fun a => match a with
    | ⟨0, _⟩ => Fin.ext (Nat.mod_one _)
    | ⟨1, _⟩ => Fin.ext (Nat.mod_eq_of_lt h.isLt)
    | ⟨2, _⟩ => Fin.ext (Nat.mod_eq_of_lt d.isLt)
  refine (dif_pos hN).trans ?_
  rw [acc_last m c b _ hN hp, hl, Sweep.valueCodes_apply m c (lastOf b) (lastOf_mod b), batch_lastOf]

/-- The scales of the new value rows. -/
theorem valueScales_apply (b : Fin 16) (h : Fin 2) : G11 m c (ix3 b h 0)
    = Spec.qscale (Spec.newRow (m ((c : Thread nD τ).loc main_arg2)) b h) := by
  have hp : pt11Of (ix3 b h 0) = 32 * b.val + 31 := by
    show 32 * (1 * (b.val / 1 - 0) + 1 * (h.val / 2 - 0) + 1 * (0 / 1 - 0)) + 31 = _; omega
  have hN : pt11Of (ix3 b h 0) < cfg0.N := hp ▸ (lastOf b).isLt
  have hl : loc11Of (ix3 b h 0) = ix3 0 h 0 := funext fun a => match a with
    | ⟨0, _⟩ => Fin.ext (Nat.mod_one _)
    | ⟨1, _⟩ => Fin.ext (Nat.mod_eq_of_lt h.isLt)
    | ⟨2, _⟩ => rfl
  refine (dif_pos hN).trans ?_
  rw [acc_last m c b _ hN hp, hl, Sweep.valueScales_apply m c (lastOf b) (lastOf_mod b), batch_lastOf]

end Cert.KernelIdeal.Results

end
-- ==== Proof.lean ====
/-
The proof of `Cert.Claim`: the three programs run and leave their arguments as they were, the ideal program is the kernel's
own text, and over the extended reals the kernel's five arrays are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Ref
public import proofs.«01_k».proof.Proof.Results
public import Idealize.ShloMosaic.Adequacy
public import Idealize.ShloMosaic.Init

@[expose] public section

set_option maxRecDepth 16384

noncomputable section

namespace Cert.Proof

open Idealize.ShloMosaic hiding ix1 ix2 ix3 ix4
open Idealize.ShloMosaic.TcCoe Idealize.ShloMosaic.ValueIdx
open Idealize.SL.Sem
open Cert.ReferenceIdeal.Read Cert.ReferenceIdeal.RefValue

/-! ## The five results, array by array -/

section
variable (m : (ℓ : Loc Cert.KernelIdeal.nD Cert.KernelIdeal.τ Cert.KernelIdeal.sig) → Buf (Elt Ideal) ℓ)
  (c : Dev Cert.KernelIdeal.nD)

open Cert.KernelIdeal (main_arg0 main_arg1 main_arg2 main_arg3 main_arg4 main_arg5 main_arg6)

/-- The attention output. -/
theorem out_eq : val_main_v83 (F := Ideal) (m ((c.tc : Thread Cert.KernelIdeal.nD Cert.KernelIdeal.τ).loc main_arg0)) (m ((c.tc : Thread Cert.KernelIdeal.nD Cert.KernelIdeal.τ).loc main_arg1)) (m ((c.tc : Thread Cert.KernelIdeal.nD Cert.KernelIdeal.τ).loc main_arg2)) (m ((c.tc : Thread Cert.KernelIdeal.nD Cert.KernelIdeal.τ).loc main_arg3)) (m ((c.tc : Thread Cert.KernelIdeal.nD Cert.KernelIdeal.τ).loc main_arg4))
    (m ((c.tc : Thread Cert.KernelIdeal.nD Cert.KernelIdeal.τ).loc main_arg5)) (m ((c.tc : Thread Cert.KernelIdeal.nD Cert.KernelIdeal.τ).loc main_arg6)) = Cert.KernelIdeal.Value.G7 m c := by
  funext i
  obtain ⟨b, r, d, rfl⟩ : ∃ b r d, i = ix3 b r d := ⟨_, _, _, ValueIdx.eq_ix3 i⟩
  exact (v83_apply _ _ _ _ _ _ _ b r d).trans (Cert.KernelIdeal.Results.out_apply m c b r d).symm

/-- The codes of the new keys. -/
theorem keyCodes_eq : val_main_v84 (F := Ideal) (m ((c.tc : Thread Cert.KernelIdeal.nD Cert.KernelIdeal.τ).loc main_arg1)) = Cert.KernelIdeal.Value.G8 m c := by
  funext i
  obtain ⟨b, h, d, rfl⟩ : ∃ b h d, i = ix3 b h d := ⟨_, _, _, ValueIdx.eq_ix3 i⟩
  exact (v84_apply _ b h d).trans (Cert.KernelIdeal.Results.keyCodes_apply m c b h d).symm

/-- The scales of the new keys. -/
theorem keyScales_eq : val_main_v85 (F := Ideal) (m ((c.tc : Thread Cert.KernelIdeal.nD Cert.KernelIdeal.τ).loc main_arg1)) = Cert.KernelIdeal.Value.G9 m c := by
  funext i
  obtain ⟨b, h, z, rfl⟩ : ∃ b h z, i = ix3 b h z := ⟨_, _, _, ValueIdx.eq_ix3 i⟩
  obtain rfl : z = 0 := Subsingleton.elim (α := Fin 1) _ _
  exact (v85_apply _ b h).trans (Cert.KernelIdeal.Results.keyScales_apply m c b h).symm

/-- The codes of the new values. -/
theorem valueCodes_eq : val_main_v86 (F := Ideal) (m ((c.tc : Thread Cert.KernelIdeal.nD Cert.KernelIdeal.τ).loc main_arg2)) = Cert.KernelIdeal.Value.G10 m c := by
  rw [v86_eq]
  funext i
  obtain ⟨b, h, d, rfl⟩ : ∃ b h d, i = ix3 b h d := ⟨_, _, _, ValueIdx.eq_ix3 i⟩
  exact (v84_apply _ b h d).trans (Cert.KernelIdeal.Results.valueCodes_apply m c b h d).symm

/-- The scales of the new values. -/
theorem valueScales_eq : val_main_v87 (F := Ideal) (m ((c.tc : Thread Cert.KernelIdeal.nD Cert.KernelIdeal.τ).loc main_arg2)) = Cert.KernelIdeal.Value.G11 m c := by
  rw [v87_eq]
  funext i
  obtain ⟨b, h, z, rfl⟩ : ∃ b h z, i = ix3 b h z := ⟨_, _, _, ValueIdx.eq_ix3 i⟩
  obtain rfl : z = 0 := Subsingleton.elim (α := Fin 1) _ _
  exact (v85_apply _ b h).trans (Cert.KernelIdeal.Results.valueScales_apply m c b h).symm

end

/-! ## The claims -/

/-- The kernel runs and leaves its arguments unchanged. -/
theorem frame_kernel : Cert.quiescent_Kernel := fun m ρ _ => Cert.Kernel.Gen.frame m ρ

/-- The ideal kernel runs and leaves its arguments unchanged. -/
theorem frame_kernelIdeal : Cert.quiescent_KernelIdeal := fun m ρ _ => Cert.KernelIdeal.Gen.frame m ρ

/-- The reference runs and leaves its arguments unchanged; it declares no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The kernel and the reference leave the same five arrays over the extended reals. -/
theorem algebraic : Cert.algebraic_KernelIdeal_ReferenceIdeal := by
  intro m ρ m' ρ' _ hagree
  refine ⟨Cert.KernelIdeal.Value.G7 m, Cert.KernelIdeal.Value.G8 m, Cert.KernelIdeal.Value.G9 m,
    Cert.KernelIdeal.Value.G10 m, Cert.KernelIdeal.Value.G11 m, Cert.KernelIdeal.Value.run (F := Ideal) m ρ,
    (θ_run Cert.ReferenceIdeal.defs _ _).mono (fun r h c => ?_) (Cert.ReferenceIdeal.Value.run (F := Ideal) m' ρ')⟩
  obtain ⟨e0, e1, e2, e3, e4, e5, e6⟩ := hagree c
  obtain ⟨r0, r1, r2, r3, r4, args⟩ := h c
  refine ⟨r0.trans ((val_main_v83_eq m' c).trans ?_), r1.trans ((val_main_v84_eq _).trans ?_),
    r2.trans ((val_main_v85_eq _).trans ?_), r3.trans ((val_main_v86_eq _).trans ?_),
    r4.trans ((val_main_v87_eq _).trans ?_), args⟩
  · rw [e0, e1, e2, e3, e4, e5, e6]; exact out_eq m c
  · rw [e1]; exact keyCodes_eq m c
  · rw [e1]; exact keyScales_eq m c
  · rw [e2]; exact valueCodes_eq m c
  · rw [e2]; exact valueScales_eq m c

theorem claim : Cert.Claim := ⟨Cert.Kernel.Gen.facts, Cert.KernelIdeal.Gen.facts, Cert.ReferenceIdeal.Gen.facts,
  frame_kernel, frame_kernelIdeal, frame_reference, trivial, algebraic⟩

end Cert.Proof

end
